-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1x2 : Shape := ⟨2, ![1, 2]⟩
abbrev S_ : Shape := ⟨0, ![]⟩
abbrev S512x1024 : Shape := ⟨2, ![512, 1024]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩
abbrev S256 : Shape := ⟨1, ![256]⟩
abbrev S1x256 : Shape := ⟨2, ![1, 256]⟩
abbrev S512x512 : Shape := ⟨2, ![512, 512]⟩
abbrev S1x512 : Shape := ⟨2, ![1, 512]⟩
abbrev S1 : Shape := ⟨1, ![1]⟩
abbrev S1x1 : Shape := ⟨2, ![1, 1]⟩

abbrev nBuf : Space → Nat
  | .hbm => 7
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x2, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .local _ .vmem, ⟨0, _⟩ => ⟨S1x2, .f32⟩
  | .local _ .vmem, ⟨1, _⟩ => ⟨S1024x1024, .f32⟩
  | .local _ .vmem, ⟨2, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x10 : Shape := ⟨2, ![1024, 10]⟩

abbrev nBuf : Space → Nat
  | .hbm => 46
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .i32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024x1, .f32⟩
  | .hbm, ⟨14, _⟩ => ⟨S1x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .i32⟩
  | .hbm, ⟨24, _⟩ => ⟨S_, .f32⟩
  | .hbm, ⟨25, _⟩ => ⟨S_, .i32⟩
  | .hbm, ⟨26, _⟩ => ⟨S1024, .f32⟩
  | .hbm, ⟨27, _⟩ => ⟨S1024, .i32⟩
  | .hbm, ⟨28, _⟩ => ⟨S1024, .i1⟩
  | .hbm, ⟨29, _⟩ => ⟨S1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1024x10, .f32⟩
  | .hbm, ⟨35, _⟩ => ⟨S1024x10, .i32⟩
  | .hbm, ⟨36, _⟩ => ⟨S1024x1, .i32⟩
  | .hbm, ⟨37, _⟩ => ⟨S1024x10, .i32⟩
  | .hbm, ⟨38, _⟩ => ⟨S1024x10, .i1⟩
  | .hbm, ⟨39, _⟩ => ⟨S_, .i1⟩
  | .hbm, ⟨40, _⟩ => ⟨S1024, .i1⟩
  | .hbm, ⟨41, _⟩ => ⟨S1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v3 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call2_v0 : Ref sig .tc := ⟨.hbm, 23, rfl⟩
abbrev main_call2_cst : Ref sig .tc := ⟨.hbm, 24, rfl⟩
abbrev main_call2_c : Ref sig .tc := ⟨.hbm, 25, rfl⟩
abbrev main_call2_v1_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_values : Ref sig .tc := ⟨.hbm, 34, rfl⟩
abbrev main_indices : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Proof.Rank.lean ====
/-
  The rank of an entry in a row of values (untrusted), naming no program: how many entries are ahead of it when a row is
  ordered by decreasing value, equal values by increasing position. Where a stable descending sort puts an entry, and
  which position an arg-max fold ends with, are both said in terms of that number.
-/
module

public import Idealize.ShloMosaic.Lib.SortPrefix
public import Mathlib.Data.Fintype.Card
public import Mathlib.Order.Interval.Finset.Fin
public import Mathlib.Data.EReal.Basic

@[expose] public section

namespace Cert.Proof

open Idealize.ShloMosaic

/-- Position `i` is ahead of position `j`: its value is greater, or equal at a smaller position. -/
def Ahead {n : Nat} (v : Fin n → EReal) (i j : Fin n) : Prop := v j < v i ∨ (v i = v j ∧ i < j)

noncomputable instance {n : Nat} (v : Fin n → EReal) (i j : Fin n) : Decidable (Ahead v i j) := Classical.dec _

/-- How many positions are ahead of `j`. -/
noncomputable def rank {n : Nat} (v : Fin n → EReal) (j : Fin n) : Nat :=
  (Finset.univ.filter fun i => Ahead v i j).card

section Order

variable {n : Nat} (v : Fin n → EReal)

/-- No position is ahead of itself. -/
theorem not_ahead_self (a : Fin n) : ¬ Ahead v a a := fun h =>
  h.elim (fun h => lt_irrefl _ h) fun h => lt_irrefl _ h.2

/-- Of two different positions one is ahead of the other. -/
theorem ahead_total (a b : Fin n) (hne : a ≠ b) : Ahead v a b ∨ Ahead v b a := by
  rcases lt_trichotomy (v a) (v b) with h | h | h
  · exact Or.inr (Or.inl h)
  · rcases lt_or_gt_of_ne hne with hlt | hgt
    · exact Or.inl (Or.inr ⟨h, hlt⟩)
    · exact Or.inr (Or.inr ⟨h.symm, hgt⟩)
  · exact Or.inl (Or.inl h)

/-- Being ahead is transitive. -/
theorem ahead_trans (a b c : Fin n) (hab : Ahead v a b) (hbc : Ahead v b c) : Ahead v a c := by
  rcases hab with hab | ⟨eab, lab⟩ <;> rcases hbc with hbc | ⟨ebc, lbc⟩
  · exact Or.inl (hbc.trans hab)
  · exact Or.inl (ebc ▸ hab)
  · exact Or.inl (eab ▸ hbc)
  · exact Or.inr ⟨eab.trans ebc, lab.trans lbc⟩

/-- The order, as the sorts take one: a strict total order on the positions. -/
theorem ahead_strictTotal : StrictTotalBefore fun a b : Fin n => decide (Ahead v a b) where
  irrefl a := by simp [not_ahead_self]
  trans a b c hab hbc := by
    simp only [decide_eq_true_eq] at hab hbc ⊢
    exact ahead_trans v a b c hab hbc
  total a b hne := by
    simp only [decide_eq_true_eq]
    exact ahead_total v a b hne

/-- The rank is zero exactly when no position is ahead. -/
theorem rank_eq_zero_iff (j : Fin n) : rank v j = 0 ↔ ∀ i, ¬ Ahead v i j := by
  unfold rank
  rw [Finset.card_eq_zero, Finset.filter_eq_empty_iff]
  exact ⟨fun h i => h (Finset.mem_univ i), fun h i _ => h i⟩

end Order

section Sorting

variable {n : Nat} (v : Fin n → EReal)

/-- A stable sort that compares values alone sorts a list of increasing positions as the order by value and then
    position does: an element is only ever compared with later ones. -/
theorem stableSort_values (B : Fin n → Fin n → Bool) (hB : ∀ a b, B a b = decide (v b < v a)) (l : List (Fin n))
    (hl : l.Pairwise (· < ·)) : stableSort B l = stableSort (fun a b => decide (Ahead v a b)) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    rw [hB]
    refine decide_eq_decide.mpr ⟨Or.inl, fun h => h.elim id fun h => absurd h.2 (not_lt.mpr hab.le)⟩

/-- So the two sorts take their elements from the same positions. -/
theorem sortedFrom_values (B : Fin n → Fin n → Bool) (hB : ∀ a b, B a b = decide (v b < v a)) :
    sortedFrom B = sortedFrom fun a b => decide (Ahead v a b) := by
  funext k
  unfold sortedFrom
  rw [List.get_of_eq (show sortPositions n B = sortPositions n fun a b => decide (Ahead v a b) from
    stableSort_values v B hB _ (List.pairwise_lt_finRange n))]
  rfl

/-- An earlier place of the sort holds a position ahead of a later place's. -/
theorem ahead_sortedFrom (p q : Fin n) (h : p < q) :
    Ahead v (sortedFrom (fun a b => decide (Ahead v a b)) p) (sortedFrom (fun a b => decide (Ahead v a b)) q) := by
  have hB := ahead_strictTotal v
  have h0 := sortedFrom_noInversion (fun a b => decide (Ahead v a b)) (fun a b => decide (Ahead v a b))
    (fun a b h => hB.asymm a b h) (fun _ _ h => h) hB.negTrans p q h
  refine (ahead_total v _ _ fun e => ?_).resolve_right (by simpa using h0)
  exact absurd (sortedFrom_injective _ e) h.ne

/-- The place of the sort that holds a position is that position's rank. -/
theorem rank_sortedFrom (p : Fin n) : rank v (sortedFrom (fun a b => decide (Ahead v a b)) p) = p.val := by
  classical
  unfold rank
  have e : (Finset.univ.filter fun i => Ahead v i (sortedFrom (fun a b => decide (Ahead v a b)) p))
      = (Finset.Iio p).image (sortedFrom fun a b => decide (Ahead v a b)) := by
    ext i
    simp only [Finset.mem_filter, Finset.mem_univ, true_and, Finset.mem_image, Finset.mem_Iio]
    constructor
    · intro hi
      obtain ⟨q, rfl⟩ := sortedFrom_surjective (fun a b => decide (Ahead v a b)) i
      refine ⟨q, ?_, rfl⟩
      rcases lt_trichotomy q p with h | h | h
      · exact h
      · subst h; exact absurd hi (not_ahead_self v _)
      · exact absurd (ahead_trans v _ _ _ hi (ahead_sortedFrom v p q h)) (not_ahead_self v _)
    · rintro ⟨q, hq, rfl⟩
      exact ahead_sortedFrom v q p hq
  rw [e, Finset.card_image_of_injective _ (sortedFrom_injective _), Fin.card_Iio]

/-- A position is among the first `k` places of a stable descending sort exactly when its rank is below `k`. -/
theorem exists_sortedFrom_iff (B : Fin n → Fin n → Bool) (hB : ∀ a b, B a b = decide (v b < v a)) {k : Nat} (hk : k ≤ n)
    (j : Fin n) : (∃ p : Fin k, sortedFrom B (p.castLE hk) = j) ↔ rank v j < k := by
  rw [sortedFrom_values v B hB]
  constructor
  · rintro ⟨p, rfl⟩
    rw [rank_sortedFrom]
    exact p.isLt
  · intro h
    obtain ⟨q, rfl⟩ := sortedFrom_surjective (fun a b => decide (Ahead v a b)) j
    rw [rank_sortedFrom] at h
    exact ⟨⟨q.val, h⟩, rfl⟩

end Sorting

section ArgMax

/-- A pair of a value and a 32-bit position is ahead of another: a greater value, or an equal one at a smaller
    position (read signed). -/
def PairAhead (a b : EReal × BitVec 32) : Prop := b.1 < a.1 ∨ (a.1 = b.1 ∧ a.2.toInt < b.2.toInt)

/-- No pair is ahead of itself. -/
theorem not_pairAhead_self (a : EReal × BitVec 32) : ¬ PairAhead a a := fun h =>
  h.elim (fun h => lt_irrefl _ h) fun h => lt_irrefl _ h.2

/-- What is not ahead of `b`, when `b` is not ahead of `c`, is not ahead of `c`. -/
theorem not_pairAhead_trans {a b c : EReal × BitVec 32} (hab : ¬ PairAhead a b) (hbc : ¬ PairAhead b c) : ¬ PairAhead a c := by
  unfold PairAhead at *
  push Not at *
  refine ⟨hab.1.trans hbc.1, fun e => ?_⟩
  have e1 : a.1 = b.1 := le_antisymm hab.1 (e ▸ hbc.1)
  exact (hbc.2 (e1.symm.trans e)).trans (hab.2 e1)

/-- A left fold whose step keeps the accumulated pair exactly when it is ahead ends with a pair it met, and no pair
    it met is ahead of that one. -/
theorem foldl_pairAhead (f : EReal × BitVec 32 → EReal × BitVec 32 → EReal × BitVec 32)
    (hf : ∀ a b, (PairAhead a b ∧ f a b = a) ∨ (¬ PairAhead a b ∧ f a b = b)) :
    ∀ (l : List (EReal × BitVec 32)) (init : EReal × BitVec 32),
      (l.foldl f init = init ∨ l.foldl f init ∈ l) ∧ (¬ PairAhead init (l.foldl f init))
        ∧ ∀ p ∈ l, ¬ PairAhead p (l.foldl f init)
  | [], init => ⟨Or.inl rfl, not_pairAhead_self init, fun _ h => nomatch h⟩
  | b :: l, init => by
    obtain ⟨hmem, hinit, hall⟩ := foldl_pairAhead f hf l (f init b)
    rw [List.foldl_cons]
    rcases hf init b with ⟨hg, e⟩ | ⟨hg, e⟩
    · rw [e] at hmem hinit hall ⊢
      refine ⟨hmem.imp id (List.mem_cons_of_mem b), hinit, fun p hp => ?_⟩
      rcases List.mem_cons.mp hp with rfl | hp
      · refine not_pairAhead_trans (fun h => ?_) hinit
        rcases hg with hg | hg <;> rcases h with h | h
        · exact lt_asymm hg h
        · exact hg.ne h.1
        · exact h.ne hg.1
        · exact lt_asymm hg.2 h.2
      · exact hall p hp
    · rw [e] at hmem hinit hall ⊢
      refine ⟨Or.inr (hmem.elim (fun h => List.mem_cons.mpr (Or.inl h)) (List.mem_cons_of_mem b)),
        not_pairAhead_trans hg hinit, fun p hp => ?_⟩
      rcases List.mem_cons.mp hp with rfl | hp
      · exact hinit
      · exact hall p hp

/-- THE ARG-MAX FOLD over a row of fewer than 2³¹ values, from the pair (−∞, 0): its position is `j` exactly when no
    position is ahead of `j`. The list holds the row's (value, position) pairs, in any order. -/
theorem foldl_position_iff {n : Nat} (hn : n < 2 ^ 31) (v : Fin n → EReal)
    (f : EReal × BitVec 32 → EReal × BitVec 32 → EReal × BitVec 32)
    (hf : ∀ a b, (PairAhead a b ∧ f a b = a) ∨ (¬ PairAhead a b ∧ f a b = b)) (l : List (EReal × BitVec 32))
    (hl : ∀ p, p ∈ l ↔ ∃ k : Fin n, p = (v k, BitVec.ofNat 32 k.val)) (j : Fin n) :
    (l.foldl f (⊥, 0#32)).2 = BitVec.ofNat 32 j.val ↔ rank v j = 0 := by
  have hint : ∀ k : Fin n, (BitVec.ofNat 32 k.val).toInt = (k.val : Int) := fun k => by
    have := k.isLt
    rw [BitVec.toInt_ofNat']
    exact Int.bmod_eq_of_le (by omega) (by omega)
  have hpair : ∀ a b : Fin n, PairAhead (v a, BitVec.ofNat 32 a.val) (v b, BitVec.ofNat 32 b.val) ↔ Ahead v a b := fun a b => by
    unfold PairAhead Ahead
    simp only [hint, Nat.cast_lt, Fin.lt_def]
  obtain ⟨hmem, hinit, hall⟩ := foldl_pairAhead f hf l (⊥, 0#32)
  -- the fold's result is the pair of some position
  have hk : ∃ k : Fin n, l.foldl f (⊥, 0#32) = (v k, BitVec.ofNat 32 k.val) := by
    rcases hmem with e | h
    · have hn0 : 0 < n := j.pos
      refine ⟨⟨0, hn0⟩, ?_⟩
      have h0 := hall (v ⟨0, hn0⟩, BitVec.ofNat 32 0) ((hl _).mpr ⟨⟨0, hn0⟩, rfl⟩)
      rw [e] at h0 ⊢
      have hb : v ⟨0, hn0⟩ = ⊥ := by
        by_contra hne
        exact h0 (Or.inl (bot_lt_iff_ne_bot.mpr hne))
      rw [hb]
    · exact (hl _).mp h
  obtain ⟨k, ek⟩ := hk
  have hno : ∀ i, ¬ Ahead v i k := fun i h =>
    hall _ ((hl _).mpr ⟨i, rfl⟩) (by rw [ek]; exact (hpair i k).mpr h)
  rw [rank_eq_zero_iff, ek]
  constructor
  · intro e
    have : k = j := by
      have := congrArg BitVec.toInt e
      simp only [hint] at this
      exact Fin.ext (by exact_mod_cast this)
    subst this
    exact hno
  · intro h
    by_cases e : k = j
    · rw [e]
    · exact absurd (ahead_total v k j e) (not_or.mpr ⟨h k, hno j⟩)

end ArgMax

end Cert.Proof
-- ==== Proof.Spec.lean ====
/-
The mathematics the two programs are compared to: the cosine similarity of two families of vectors, and how many of
the second family's members find their own partner within the first `k` places of their column.
-/
module

public import proofs.«01_k».proof.Proof.Rank
public import Idealize.ShloMosaic.PureOps.Ideal.Laws
public import Idealize.ShloMosaic.Lib.IdealHost

@[expose] public section

open Idealize.ShloMosaic

namespace Cert.Proof

/-- A family of `a` vectors of `b` extended reals. -/
abbrev Fam (a b : Nat) := Fin a → Fin b → EReal

variable {a b n : Nat}

/-- The inner product of member `i` of one family with member `j` of another. -/
noncomputable def inner (x : Fam a n) (y : Fam b n) (i : Fin a) (j : Fin b) : EReal := ∑ k, x i k * y j k

/-- The length of member `i`. -/
noncomputable def len (x : Fam a n) (i : Fin a) : EReal := Ideal.sqrt (∑ k, x i k * x i k)

/-- The cosine similarity of member `i` of one family with member `j` of another, its denominator kept from below by
    the constant both programs write. -/
noncomputable def sim (x : Fam a n) (y : Fam b n) (i : Fin a) (j : Fin b) : EReal :=
  Ideal.div (inner x y i j) (max (len x i * len y j) (Ideal.ofBits .f32 0x322BCC77#32))

/-- How many columns `j` hold their own entry `j` within their first `k` places, as an extended real. -/
noncomputable def hits (s : Fam n n) (k : Nat) : EReal :=
  ∑ j, if rank (fun i => s i j) j < k then 1 else 0

/-- The number `1024` both programs divide by or multiply the reciprocal of: the quotient by it is the product with the
    constant of pattern `0x3A800000`. -/
theorem div_1024 (x : EReal) :
    Ideal.div x (Ideal.ofBits .f32 0x44800000#32) = x * Ideal.ofBits .f32 0x3A800000#32 := by
  have e1 : Ideal.ofBits .f32 0x44800000#32 = ((1024 : ℝ) : EReal) := by
    simp [Ideal.ofBits, Ideal.ieee, -EReal.coe_mul]; norm_num
  have e2 : Ideal.ofBits .f32 0x3A800000#32 = ((1 / 1024 : ℝ) : EReal) := by
    simp [Ideal.ofBits, Ideal.ieee, -EReal.coe_mul]; norm_num
  rw [e1, e2, Ideal.div_coe (by norm_num)]

/-- The pattern of minus infinity. -/
theorem ofBits_neg_inf : Ideal.ofBits .f32 0xFF800000#32 = ⊥ := by
  simp [Ideal.ofBits, Ideal.ieee]

/-- The pattern of ten. -/
theorem ofBits_ten : Ideal.ofBits .f32 0x41200000#32 = ((10 : ℝ) : EReal) := by
  simp [Ideal.ofBits, Ideal.ieee, -EReal.coe_mul]; norm_num

end Cert.Proof
-- ==== Proof.Block.lean ====
/-
Lemmas on blocks of any extents, naming no program: a block of similarities, its diagonal taken out by a masked sum,
and the counts the kernel takes by summing zeros and ones.
-/
module

public import proofs.«01_k».proof.Proof.Spec
public import Idealize.ShloMosaic.Lib.MatmulPlain
public import Idealize.ShloMosaic.Lib.ValueLayout
public import Idealize.ShloMosaic.Lib.ValueLayoutCasts
public import Idealize.ShloMosaic.Lib.ValueIdx
public import Idealize.ShloMosaic.Lib.ValueIdxRank1
public import Idealize.ShloMosaic.Lib.Pipeline.Value

@[expose] public section

open Idealize.ShloMosaic Idealize.ShloMosaic.ValueIdx

set_option maxRecDepth 16384

namespace Cert.Proof

variable {a b n : Nat}

/-- A two-axis array as a family of rows. -/
def fam (x : (⟨2, ![a, b]⟩ : Shape).Idx → EReal) : Fam a b := fun i j => x (ix2 i j)

/-- A word comparison for equality is set exactly at the indices where the words are equal. -/
theorem cmpi_eq_iff {s : Shape} {w : Nat} (x y : IVec s w) (i : s.Idx) : cmpi .eq x y i = 1#1 ↔ x i = y i := by
  show BitVec.ofBool (x i == y i) = 1#1 ↔ _
  by_cases h : x i = y i
  · simp [h]
  · simp [h, beq_eq_false_iff_ne.mpr h]

/-- A one-bit word made of a truth value is `1` exactly when the value is true. -/
theorem ofBool_eq_one_iff (b : Bool) : BitVec.ofBool b = 1#1 ↔ b = true := by cases b <;> decide

/-- An `or` of bits is set exactly when one of them is. -/
theorem ori_eq_one_iff (x y : BitVec 1) : IntOp.ori x y = 1#1 ↔ x = 1#1 ∨ y = 1#1 := by
  unfold IntOp.ori; revert x y; decide

/-- An `and` of bits is set exactly when both of them are. -/
theorem andi_eq_one_iff (x y : BitVec 1) : IntOp.andi x y = 1#1 ↔ x = 1#1 ∧ y = 1#1 := by
  unfold IntOp.andi; revert x y; decide

/-- Reducing the rows' axis of a table puts the summed coordinate second. -/
theorem lift_row (h : Shape.Reduces ⟨2, ![a, b]⟩ [1] ⟨1, ![a]⟩) (i : Fin a) (k : Fin b) : h.lift (ix1 i) k = ix2 i k := by
  funext c; match c with | ⟨0, _⟩ => exact Fin.ext rfl | ⟨1, _⟩ => exact Fin.ext rfl

/-- Reducing the columns' axis of a table puts the summed coordinate first. -/
theorem lift_col (h : Shape.Reduces ⟨2, ![a, b]⟩ [0] ⟨1, ![b]⟩) (j : Fin b) (k : Fin a) : h.lift (ix1 j) k = ix2 k j := by
  funext c; match c with | ⟨0, _⟩ => exact Fin.ext rfl | ⟨1, _⟩ => exact Fin.ext rfl

/-- A row sum of a table. -/
theorem sum_row (x : FVec Ideal ⟨2, ![a, b]⟩ .f32) (h : Shape.Reduces ⟨2, ![a, b]⟩ [1] ⟨1, ![a]⟩) (hφ : FKind.Formats .f32)
    (hacc : (0x00000000#32 : BitVec 32) = FKind.add.neutral .f32 hφ) (i : Fin a) :
    multiReduction .add [1] ⟨1, ![a]⟩ x 0x00000000#32 h hφ hacc (ix1 i) = ∑ k : Fin b, x (ix2 i k) := by
  rw [Ideal.multiReduction_add_single]
  exact Finset.sum_congr rfl fun k _ => congrArg x (lift_row h i k)

/-- A column sum of a table. -/
theorem sum_col (x : FVec Ideal ⟨2, ![a, b]⟩ .f32) (h : Shape.Reduces ⟨2, ![a, b]⟩ [0] ⟨1, ![b]⟩) (hφ : FKind.Formats .f32)
    (hacc : (0x00000000#32 : BitVec 32) = FKind.add.neutral .f32 hφ) (j : Fin b) :
    multiReduction .add [0] ⟨1, ![b]⟩ x 0x00000000#32 h hφ hacc (ix1 j) = ∑ k : Fin a, x (ix2 k j) := by
  rw [Ideal.multiReduction_add_single]
  exact Finset.sum_congr rfl fun k _ => congrArg x (lift_col h j k)

/-- The root of a row's sum of squares is that member's length. -/
theorem len_row (x : FVec Ideal ⟨2, ![a, n]⟩ .f32) (h : Shape.Reduces ⟨2, ![a, n]⟩ [1] ⟨1, ![a]⟩) (hφ : FKind.Formats .f32)
    (hacc : (0x00000000#32 : BitVec 32) = FKind.add.neutral .f32 hφ) (i : Fin a) :
    sqrt (multiReduction .add [1] ⟨1, ![a]⟩ (mulf x x) 0x00000000#32 h hφ hacc) (ix1 i) = len (fam x) i := by
  show Ideal.sqrt (multiReduction .add [1] ⟨1, ![a]⟩ (mulf x x) 0x00000000#32 h hφ hacc (ix1 i)) = _
  rw [sum_row]; rfl

/-- A product of one block of rows with the transpose of another holds the inner products. -/
theorem inner_block (d : DotDims ⟨2, ![a, n]⟩ ⟨2, ![b, n]⟩ ⟨2, ![a, b]⟩) (hd : d = DotDims.transposedRhs a n b)
    (x : FVec Ideal ⟨2, ![a, n]⟩ .f32) (y : FVec Ideal ⟨2, ![b, n]⟩ .f32) (i : Fin a) (j : Fin b) :
    matmul d none x y (constant ⟨2, ![a, b]⟩ .f32 0x00000000#32) (ix2 i j) = inner (fam x) (fam y) i j := by
  subst hd
  refine (Ideal.matmul_transposedRhs_apply (φ₁ := .f32) (φ₂ := .f32) none x y _ i j).trans ?_
  show Ideal.ofBits .f32 0x00000000#32 + _ = _
  rw [Ideal.ofBits_zero_f32, zero_add]; rfl

/-- A block of quotients whose numerators are inner products and whose denominators are products of lengths kept from
    below holds similarities. -/
theorem sim_block (x : Fam a n) (y : Fam b n) (num : FVec Ideal ⟨2, ![a, b]⟩ .f32) (xn : FVec Ideal ⟨2, ![a, 1]⟩ .f32)
    (yn : FVec Ideal ⟨2, ![1, b]⟩ .f32) (hx : (⟨2, ![a, 1]⟩ : Shape).Broadcasts ⟨2, ![a, b]⟩)
    (hy : (⟨2, ![1, b]⟩ : Shape).Broadcasts ⟨2, ![a, b]⟩)
    (hnum : ∀ i j, num (ix2 i j) = inner x y i j) (hxn : ∀ i, xn (ix2 i 0) = len x i) (hyn : ∀ j, yn (ix2 0 j) = len y j)
    (i : Fin a) (j : Fin b) :
    divf num (maximumf (mulf (broadcastTo ⟨2, ![a, b]⟩ xn hx) (broadcastTo ⟨2, ![a, b]⟩ yn hy))
      (broadcast ⟨2, ![a, b]⟩ (Scalar.ofBits .f32 0x322BCC77#32))) (ix2 i j) = sim x y i j := by
  rw [divf_apply, maximumf_apply, mulf_apply, broadcastTo_1b_ab_apply, hnum, hyn, broadcast_apply]
  have e : broadcastTo ⟨2, ![a, b]⟩ xn hx (ix2 i j) = xn (ix2 i 0) := by
    refine broadcastTo_apply xn hx (ix2 i j) (ix2 i 0) fun ax => ?_
    match ax with
    | ⟨0, _⟩ =>
      show i.val = if a = 1 then 0 else i.val
      split
      · have := i.isLt; omega
      · rfl
    | ⟨1, _⟩ => rfl
  rw [e, hxn]; rfl

/-- The row and column words of a block, the column's shifted by `o`, are equal exactly when the row is `o` past the
    column. -/
theorem iota_eq_iff (h0 : (⟨2, ![a, b]⟩ : Shape).Iotas .tc 32 [0]) (h1 : (⟨2, ![a, b]⟩ : Shape).Iotas .tc 32 [1]) (o : Nat)
    (w : BitVec 32) (hw : w = BitVec.ofNat 32 o) (ha : a < 2 ^ 31) (hb : b + o < 2 ^ 31) (i : Fin a) (j : Fin b) :
    cmpi .eq (iota .tc ⟨2, ![a, b]⟩ 32 [0] h0) (addi (iota .tc ⟨2, ![a, b]⟩ 32 [1] h1) (broadcast ⟨2, ![a, b]⟩ w)) (ix2 i j) = 1#1
      ↔ i.val = o + j.val := by
  rw [cmpi_eq_iff]
  show iota .tc ⟨2, ![a, b]⟩ 32 [0] h0 (ix2 i j) = iota .tc ⟨2, ![a, b]⟩ 32 [1] h1 (ix2 i j) + w ↔ _
  rw [iota_single_apply, iota_single_apply, hw]
  show BitVec.ofNat 32 i.val = BitVec.ofNat 32 j.val + BitVec.ofNat 32 o ↔ _
  rw [← BitVec.ofNat_add]
  have hi := i.isLt
  have hj := j.isLt
  constructor
  · intro e
    have := congrArg BitVec.toNat e
    rw [BitVec.toNat_ofNat, BitVec.toNat_ofNat, Nat.mod_eq_of_lt (by omega), Nat.mod_eq_of_lt (by omega)] at this
    omega
  · intro e; rw [e, Nat.add_comm]

/-- The same words compared as signed integers: the row is less than `o` past the column. -/
theorem iota_slt_iff (h0 : (⟨2, ![a, b]⟩ : Shape).Iotas .tc 32 [0]) (h1 : (⟨2, ![a, b]⟩ : Shape).Iotas .tc 32 [1]) (o : Nat)
    (w : BitVec 32) (hw : w = BitVec.ofNat 32 o) (ha : a < 2 ^ 31) (hb : b + o < 2 ^ 31) (i : Fin a) (j : Fin b) :
    cmpi .slt (iota .tc ⟨2, ![a, b]⟩ 32 [0] h0) (addi (iota .tc ⟨2, ![a, b]⟩ 32 [1] h1) (broadcast ⟨2, ![a, b]⟩ w)) (ix2 i j) = 1#1
      ↔ i.val < o + j.val := by
  show BitVec.ofBool ((iota .tc ⟨2, ![a, b]⟩ 32 [0] h0 (ix2 i j)).slt (iota .tc ⟨2, ![a, b]⟩ 32 [1] h1 (ix2 i j) + w)) = 1#1 ↔ _
  rw [iota_single_apply, iota_single_apply, hw, ofBool_eq_one_iff, BitVec.slt_iff_toInt_lt]
  show (BitVec.ofNat 32 i.val).toInt < (BitVec.ofNat 32 j.val + BitVec.ofNat 32 o).toInt ↔ _
  rw [← BitVec.ofNat_add]
  have hi := i.isLt
  have hj := j.isLt
  rw [BitVec.toInt_ofNat', BitVec.toInt_ofNat', Int.bmod_eq_of_le (by omega) (by omega), Int.bmod_eq_of_le (by omega) (by omega)]
  omega

/-- A masked column sum that keeps one row keeps that row's entry. -/
theorem masked_sum (c : IVec ⟨2, ![a, b]⟩ 1) (x : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (j : Fin b) (r : Fin a)
    (hc : ∀ i, c (ix2 i j) = 1#1 ↔ i = r) :
    multiReduction .add [0] ⟨1, ![b]⟩ (select c x (broadcast ⟨2, ![a, b]⟩ (Scalar.ofBits .f32 0x00000000#32))) 0x00000000#32 h hφ hacc
      (ix1 j) = x (ix2 r j) := by
  rw [sum_col, Finset.sum_eq_single r]
  · rw [select_apply, (hc r).mpr rfl, select_one]
  · intro i _ hi
    have : c (ix2 i j) = 0#1 := by
      have h1 : c (ix2 i j) ≠ 1#1 := fun e => hi ((hc i).mp e)
      revert h1
      generalize c (ix2 i j) = y
      revert y
      decide
    rw [select_apply, this, select_zero, broadcast_apply]
    exact Ideal.ofBits_zero_f32
  · intro h; exact absurd (Finset.mem_univ r) h

/-- A select between one and zero is one where the bit is set and zero elsewhere. -/
theorem select_ones {s : Shape} (c : IVec s 1) (i : s.Idx) :
    select c (broadcast s (Scalar.ofBits (F := Ideal) .f32 0x3F800000#32)) (broadcast s (Scalar.ofBits (F := Ideal) .f32 0x00000000#32)) i
      = if c i = 1#1 then (1 : EReal) else 0 := by
  rw [select_apply, broadcast_apply, broadcast_apply]
  split
  · rename_i h; rw [h, select_one]; exact Ideal.ofBits_one_f32
  · rename_i h
    have : c i = 0#1 := by
      revert h
      generalize c i = y
      revert y
      decide
    rw [this, select_zero]; exact Ideal.ofBits_zero_f32

/-- A column sum of zeros and ones counts the rows whose bit is set. -/
theorem count_col (c : IVec ⟨2, ![a, b]⟩ 1) (h : Shape.Reduces ⟨2, ![a, b]⟩ [0] ⟨1, ![b]⟩) (hφ : FKind.Formats .f32)
    (hacc : (0x00000000#32 : BitVec 32) = FKind.add.neutral .f32 hφ) (j : Fin b) (p : Fin a → Prop) [DecidablePred p]
    (hc : ∀ i, c (ix2 i j) = 1#1 ↔ p i) :
    multiReduction .add [0] ⟨1, ![b]⟩ (select c (broadcast ⟨2, ![a, b]⟩ (Scalar.ofBits (F := Ideal) .f32 0x3F800000#32))
        (broadcast ⟨2, ![a, b]⟩ (Scalar.ofBits (F := Ideal) .f32 0x00000000#32))) 0x00000000#32 h hφ hacc (ix1 j)
      = (((Finset.univ.filter p).card : ℕ) : EReal) := by
  rw [sum_col, Finset.natCast_card_filter]
  refine Finset.sum_congr rfl fun i _ => ?_
  rw [select_ones]
  simp only [hc]

/-- A row of zeros and ones, summed and given two unit axes, is the number of ones. -/
theorem count_row (c : IVec ⟨2, ![1, b]⟩ 1) (h : Shape.Reduces ⟨2, ![1, b]⟩ [1] ⟨1, ![1]⟩) (hφ : FKind.Formats .f32)
    (hacc : (0x00000000#32 : BitVec 32) = FKind.add.neutral .f32 hφ) (hs : (⟨1, ![1]⟩ : Shape).ShapeCasts ⟨2, ![1, 1]⟩)
    (p : Fin b → Prop) [DecidablePred p] (hc : ∀ j, c (ix2 0 j) = 1#1 ↔ p j) :
    shapeCast ⟨2, ![1, 1]⟩ (multiReduction .add [1] ⟨1, ![1]⟩
        (select c (broadcast ⟨2, ![1, b]⟩ (Scalar.ofBits (F := Ideal) .f32 0x3F800000#32))
          (broadcast ⟨2, ![1, b]⟩ (Scalar.ofBits (F := Ideal) .f32 0x00000000#32))) 0x00000000#32 h hφ hacc) hs (ix2 0 0)
      = ∑ j, if p j then (1 : EReal) else 0 := by
  rw [shapeCast_a_1a_apply, sum_row]
  refine Finset.sum_congr rfl fun j _ => ?_
  rw [select_ones]
  simp only [hc]

/-- A comparison of two arrays for greater, at an index. -/
theorem ogt_iff {s : Shape} (x y : FVec Ideal s .f32) (i : s.Idx) : cmpf .ogt x y i = 1#1 ↔ y i < x i := by
  show BitVec.ofBool (decide (y i < x i)) = 1#1 ↔ _
  rw [ofBool_eq_one_iff, decide_eq_true_eq]

/-- A comparison of two arrays for greater or equal, at an index. -/
theorem oge_iff {s : Shape} (x y : FVec Ideal s .f32) (i : s.Idx) : cmpf .oge x y i = 1#1 ↔ y i ≤ x i := by
  show BitVec.ofBool (decide (y i ≤ x i)) = 1#1 ↔ _
  rw [ofBool_eq_one_iff, decide_eq_true_eq]

/-- A comparison of two arrays for less, at an index. -/
theorem olt_iff {s : Shape} (x y : FVec Ideal s .f32) (i : s.Idx) : cmpf .olt x y i = 1#1 ↔ x i < y i := by
  show BitVec.ofBool (decide (x i < y i)) = 1#1 ↔ _
  rw [ofBool_eq_one_iff, decide_eq_true_eq]

/-- A comparison of two arrays for equality, at an index. -/
theorem oeq_iff {s : Shape} (x y : FVec Ideal s .f32) (i : s.Idx) : cmpf .oeq x y i = 1#1 ↔ x i = y i := by
  show BitVec.ofBool (decide (x i = y i)) = 1#1 ↔ _
  rw [ofBool_eq_one_iff, decide_eq_true_eq]

/-- A count kept as an extended real is zero exactly when it is zero. -/
theorem oeq_zero_iff {s : Shape} (x : FVec Ideal s .f32) (i : s.Idx) (k : Nat) (hx : x i = (k : EReal)) :
    cmpf .oeq x (broadcast s (Scalar.ofBits (F := Ideal) .f32 0x00000000#32)) i = 1#1 ↔ k < 1 := by
  rw [oeq_iff, hx, broadcast_apply]
  show (k : EReal) = Ideal.ofBits .f32 0x00000000#32 ↔ _
  rw [Ideal.ofBits_zero_f32, Nat.lt_one_iff, ← Nat.cast_zero, EReal.natCast_eq_iff]

/-- A count kept as an extended real is below ten exactly when it is below ten. -/
theorem olt_ten_iff {s : Shape} (x : FVec Ideal s .f32) (i : s.Idx) (k : Nat) (hx : x i = (k : EReal)) :
    cmpf .olt x (broadcast s (Scalar.ofBits (F := Ideal) .f32 0x41200000#32)) i = 1#1 ↔ k < 10 := by
  rw [olt_iff, hx, broadcast_apply]
  show (k : EReal) < Ideal.ofBits .f32 0x41200000#32 ↔ _
  rw [ofBits_ten, show ((10 : ℝ) : EReal) = ((10 : ℕ) : EReal) by norm_cast, EReal.natCast_lt_iff]

end Cert.Proof
-- ==== Proof.Count.lean ====
/-
A column's rank put together from the counts of two blocks of rows, and the number of hits from the columns' three
groups. No program is named.
-/
module

public import proofs.«01_k».proof.Proof.Block

@[expose] public section

open Idealize.ShloMosaic Idealize.ShloMosaic.ValueIdx

set_option maxRecDepth 16384

namespace Cert.Proof

variable {a b n : Nat}

/-- The members `o`, `o + 1`, … of a family of `1024`, `a` of them. -/
def part (x : Fam 1024 n) (o a : Nat) (h : o + a ≤ 1024) : Fam a n := fun i => x ⟨o + i.val, by omega⟩

/-- The first 512 rows are rows. -/
theorem le_first : 0 + 512 ≤ 1024 := by decide
/-- The last 512 rows are rows. -/
theorem le_last : 512 + 512 ≤ 1024 := by decide
/-- The first 256 columns are columns. -/
theorem le_one : 0 + 256 ≤ 1024 := by decide
/-- The next 256 columns are columns. -/
theorem le_two : 256 + 256 ≤ 1024 := by decide
/-- A column of the first group is a column. -/
theorem lt_one (j : Fin 256) : j.val < 1024 := by omega
/-- A column of the second group is a column. -/
theorem lt_two (j : Fin 256) : 256 + j.val < 1024 := by omega
/-- A column of the last group is a column. -/
theorem lt_last (j : Fin 512) : 512 + j.val < 1024 := by omega

/-- Members of parts are compared as the members of the whole they are. -/
theorem sim_part (x y : Fam 1024 n) (o a p b : Nat) (h : o + a ≤ 1024) (h' : p + b ≤ 1024) (i : Fin a) (j : Fin b) :
    sim (part x o a h) (part y p b h') i j = sim x y ⟨o + i.val, by omega⟩ ⟨p + j.val, by omega⟩ := rfl

/-- How many of the first and of the last `512` positions satisfy a condition, together. -/
theorem card_halves (p : Fin 1024 → Prop) [DecidablePred p] :
    (Finset.univ.filter p).card
      = (Finset.univ.filter fun i : Fin 512 => p ⟨i.val, by omega⟩).card
        + (Finset.univ.filter fun i : Fin 512 => p ⟨512 + i.val, by omega⟩).card := by
  rw [Finset.card_filter, Finset.card_filter, Finset.card_filter]
  exact Fin.sum_univ_add (a := 512) (b := 512) (fun i => if p i then 1 else 0)

/-- A sum over `1024` positions in the three groups the columns are taken in. -/
theorem sum_groups (f : Fin 1024 → EReal) :
    ∑ j, f j = ((∑ j : Fin 256, f ⟨j.val, by omega⟩) + ∑ j : Fin 256, f ⟨256 + j.val, by omega⟩)
      + ∑ j : Fin 512, f ⟨512 + j.val, by omega⟩ := by
  rw [Fin.sum_univ_add (a := 512) (b := 512) f]
  exact congrArg (· + _) (Fin.sum_univ_add (a := 256) (b := 256) fun i => f (Fin.castAdd 512 i))

/-- For a column among the first `512`: the entries of the first block ahead of the diagonal one and the entries of the
    second block above it are those ahead of it. -/
theorem rank_first (v : Fin 1024 → EReal) (r : Nat) (hr : r < 512) :
    (Finset.univ.filter fun i : Fin 512 => v ⟨r, by omega⟩ < v ⟨i.val, by omega⟩
        ∨ (v ⟨i.val, by omega⟩ = v ⟨r, by omega⟩ ∧ i.val < r)).card
      + (Finset.univ.filter fun i : Fin 512 => v ⟨r, by omega⟩ < v ⟨512 + i.val, by omega⟩).card
      = rank v ⟨r, by omega⟩ := by
  classical
  unfold rank
  rw [card_halves]
  congr 1
  · congr 1
    ext i
    simp [Ahead]
  · congr 1
    ext i
    simp only [Finset.mem_filter, Finset.mem_univ, true_and, Ahead, Fin.mk_lt_mk]
    exact ⟨Or.inl, fun h => h.elim id fun h => absurd h.2 (by omega)⟩

/-- For a column among the last `512`: the entries of the second block ahead of the diagonal one and the entries of the
    first block not below it are those ahead of it. -/
theorem rank_last (v : Fin 1024 → EReal) (r : Nat) (hr : r < 512) :
    (Finset.univ.filter fun i : Fin 512 => v ⟨512 + r, by omega⟩ < v ⟨512 + i.val, by omega⟩
        ∨ (v ⟨512 + i.val, by omega⟩ = v ⟨512 + r, by omega⟩ ∧ i.val < r)).card
      + (Finset.univ.filter fun i : Fin 512 => v ⟨512 + r, by omega⟩ ≤ v ⟨i.val, by omega⟩).card
      = rank v ⟨512 + r, by omega⟩ := by
  classical
  unfold rank
  rw [card_halves, Nat.add_comm]
  congr 1
  · congr 1
    ext i
    simp only [Finset.mem_filter, Finset.mem_univ, true_and, Ahead, Fin.mk_lt_mk]
    rw [le_iff_lt_or_eq]
    refine or_congr Iff.rfl ⟨fun h => ⟨h.symm, by omega⟩, fun h => h.1.symm⟩
  · congr 1
    ext i
    simp [Ahead]

/-- The diagonal block of a group of columns, taken out by its mask and divided as the block itself is, holds the
    similarity of each column's own entry. -/
theorem diag_block (x : Fam a n) (y : Fam b n) (o : Nat) (ho : o + b ≤ a) (ha : a < 2 ^ 31)
    (num : FVec Ideal ⟨2, ![a, b]⟩ .f32) (xn yn : FVec Ideal ⟨1, ![b]⟩ .f32)
    (h0 : (⟨2, ![a, b]⟩ : Shape).Iotas .tc 32 [0]) (h1 : (⟨2, ![a, b]⟩ : Shape).Iotas .tc 32 [1])
    (w : BitVec 32) (hw : w = BitVec.ofNat 32 o)
    (h : Shape.Reduces ⟨2, ![a, b]⟩ [0] ⟨1, ![b]⟩) (hφ : FKind.Formats .f32)
    (hacc : (0x00000000#32 : BitVec 32) = FKind.add.neutral .f32 hφ) (hs : (⟨1, ![b]⟩ : Shape).ShapeCasts ⟨2, ![1, b]⟩)
    (hnum : ∀ i j, num (ix2 i j) = inner x y i j) (hxn : ∀ j : Fin b, xn (ix1 j) = len x ⟨o + j.val, by omega⟩)
    (hyn : ∀ j, yn (ix1 j) = len y j) (j : Fin b) :
    divf
      (shapeCast ⟨2, ![1, b]⟩ (multiReduction .add [0] ⟨1, ![b]⟩
        (select (cmpi .eq (iota .tc ⟨2, ![a, b]⟩ 32 [0] h0) (addi (iota .tc ⟨2, ![a, b]⟩ 32 [1] h1) (broadcast ⟨2, ![a, b]⟩ w)))
          num (broadcast ⟨2, ![a, b]⟩ (Scalar.ofBits .f32 0x00000000#32))) 0x00000000#32 h hφ hacc) hs)
      (maximumf (mulf (shapeCast ⟨2, ![1, b]⟩ xn hs) (shapeCast ⟨2, ![1, b]⟩ yn hs))
        (broadcast ⟨2, ![1, b]⟩ (Scalar.ofBits .f32 0x322BCC77#32))) (ix2 0 j)
      = sim x y ⟨o + j.val, by omega⟩ j := by
  rw [divf_apply, maximumf_apply, mulf_apply, shapeCast_a_1a_apply, shapeCast_a_1a_apply, shapeCast_a_1a_apply,
    masked_sum _ _ _ _ _ j ⟨o + j.val, by omega⟩ fun i => ?_, hnum, hxn, hyn, broadcast_apply]
  · rfl
  · rw [iota_eq_iff h0 h1 o w hw ha (by omega)]
    exact ⟨fun e => Fin.ext e, fun e => congrArg Fin.val e⟩

/-- The count of a diagonal block: the entries above the column's own one, and those equal to it in an earlier row. -/
theorem count_diag (s : Fam a b) (o : Nat) (ho : o + b ≤ a) (ha : a < 2 ^ 31) (blk : FVec Ideal ⟨2, ![a, b]⟩ .f32)
    (dg : FVec Ideal ⟨2, ![1, b]⟩ .f32) (hd : (⟨2, ![1, b]⟩ : Shape).Broadcasts ⟨2, ![a, b]⟩)
    (h0 : (⟨2, ![a, b]⟩ : Shape).Iotas .tc 32 [0]) (h1 : (⟨2, ![a, b]⟩ : Shape).Iotas .tc 32 [1])
    (w : BitVec 32) (hw : w = BitVec.ofNat 32 o)
    (h : Shape.Reduces ⟨2, ![a, b]⟩ [0] ⟨1, ![b]⟩) (hφ : FKind.Formats .f32)
    (hacc : (0x00000000#32 : BitVec 32) = FKind.add.neutral .f32 hφ)
    (hblk : ∀ i j, blk (ix2 i j) = s i j) (d : Fin b → EReal) (hdg : ∀ j, dg (ix2 0 j) = d j) (j : Fin b) :
    multiReduction .add [0] ⟨1, ![b]⟩
      (select
        (ori (cmpf .ogt blk (broadcastTo ⟨2, ![a, b]⟩ dg hd))
          (andi (cmpf .oeq blk (broadcastTo ⟨2, ![a, b]⟩ dg hd))
            (cmpi .slt (iota .tc ⟨2, ![a, b]⟩ 32 [0] h0) (addi (iota .tc ⟨2, ![a, b]⟩ 32 [1] h1) (broadcast ⟨2, ![a, b]⟩ w)))))
        (broadcast ⟨2, ![a, b]⟩ (Scalar.ofBits (F := Ideal) .f32 0x3F800000#32))
        (broadcast ⟨2, ![a, b]⟩ (Scalar.ofBits (F := Ideal) .f32 0x00000000#32))) 0x00000000#32 h hφ hacc (ix1 j)
      = (((Finset.univ.filter fun i : Fin a => d j < s i j ∨ (s i j = d j ∧ i.val < o + j.val)).card : ℕ) : EReal) := by
  refine count_col _ h hφ hacc j _ fun i => ?_
  show IntOp.ori _ (IntOp.andi _ _) = 1#1 ↔ _
  rw [ori_eq_one_iff, andi_eq_one_iff, ogt_iff, oeq_iff, iota_slt_iff h0 h1 o w hw ha (by omega), broadcastTo_1b_ab_apply, hblk, hdg]

/-- The count of an other block by `>`. -/
theorem count_above (s : Fam a b) (blk : FVec Ideal ⟨2, ![a, b]⟩ .f32)
    (dg : FVec Ideal ⟨2, ![1, b]⟩ .f32) (hd : (⟨2, ![1, b]⟩ : Shape).Broadcasts ⟨2, ![a, b]⟩)
    (h : Shape.Reduces ⟨2, ![a, b]⟩ [0] ⟨1, ![b]⟩) (hφ : FKind.Formats .f32)
    (hacc : (0x00000000#32 : BitVec 32) = FKind.add.neutral .f32 hφ)
    (hblk : ∀ i j, blk (ix2 i j) = s i j) (d : Fin b → EReal) (hdg : ∀ j, dg (ix2 0 j) = d j) (j : Fin b) :
    multiReduction .add [0] ⟨1, ![b]⟩
      (select (cmpf .ogt blk (broadcastTo ⟨2, ![a, b]⟩ dg hd))
        (broadcast ⟨2, ![a, b]⟩ (Scalar.ofBits (F := Ideal) .f32 0x3F800000#32))
        (broadcast ⟨2, ![a, b]⟩ (Scalar.ofBits (F := Ideal) .f32 0x00000000#32))) 0x00000000#32 h hφ hacc (ix1 j)
      = (((Finset.univ.filter fun i : Fin a => d j < s i j).card : ℕ) : EReal) := by
  refine count_col _ h hφ hacc j _ fun i => ?_
  rw [ogt_iff, broadcastTo_1b_ab_apply, hblk, hdg]

/-- The count of an other block by `≥`. -/
theorem count_notBelow (s : Fam a b) (blk : FVec Ideal ⟨2, ![a, b]⟩ .f32)
    (dg : FVec Ideal ⟨2, ![1, b]⟩ .f32) (hd : (⟨2, ![1, b]⟩ : Shape).Broadcasts ⟨2, ![a, b]⟩)
    (h : Shape.Reduces ⟨2, ![a, b]⟩ [0] ⟨1, ![b]⟩) (hφ : FKind.Formats .f32)
    (hacc : (0x00000000#32 : BitVec 32) = FKind.add.neutral .f32 hφ)
    (hblk : ∀ i j, blk (ix2 i j) = s i j) (d : Fin b → EReal) (hdg : ∀ j, dg (ix2 0 j) = d j) (j : Fin b) :
    multiReduction .add [0] ⟨1, ![b]⟩
      (select (cmpf .oge blk (broadcastTo ⟨2, ![a, b]⟩ dg hd))
        (broadcast ⟨2, ![a, b]⟩ (Scalar.ofBits (F := Ideal) .f32 0x3F800000#32))
        (broadcast ⟨2, ![a, b]⟩ (Scalar.ofBits (F := Ideal) .f32 0x00000000#32))) 0x00000000#32 h hφ hacc (ix1 j)
      = (((Finset.univ.filter fun i : Fin a => d j ≤ s i j).card : ℕ) : EReal) := by
  refine count_col _ h hφ hacc j _ fun i => ?_
  rw [oge_iff, broadcastTo_1b_ab_apply, hblk, hdg]

end Cert.Proof
-- ==== Proof.Pays.lean ====
/-
The kernel's own values read at their indices: lengths, inner products, similarities, a column's rank and the number of
hits, from the blocks of rows it has loaded.
-/
module

public import proofs.«01_k».proof.Proof.Count
public import proofs.«01_k».proof.Proof.Gen.KernelIdeal.Skeleton

@[expose] public section

open Idealize.ShloMosaic Idealize.ShloMosaic.ValueIdx

set_option maxRecDepth 16384

namespace Cert.Proof

open Cert.KernelIdeal Cert.KernelIdeal.Gen

section Blocks

variable (v12 v47 v76 : Vec Ideal S512x1024 .f32) (v19 v33 : Vec Ideal S256x1024 .f32)

/-- The lengths of the first block of rows. -/
theorem pay2_apply (i : Fin 512) : k0_pay2 v12 (ix1 i) = len (fam v12) i := len_row v12 _ _ _ i
/-- The lengths of the first block of rows, with a trailing unit axis. -/
theorem pay3_apply (i : Fin 512) : k0_pay3 v12 (ix2 i 0) = len (fam v12) i :=
  (shapeCast_a_a1_apply _ _ i 0).trans (pay2_apply v12 i)
/-- The inner products of the first block of rows with the first group of columns. -/
theorem pay4_apply (i : Fin 512) (j : Fin 256) : k0_pay4 v12 v19 (ix2 i j) = inner (fam v12) (fam v19) i j :=
  inner_block _ rfl v12 v19 i j
/-- The lengths of the first group of columns. -/
theorem pay5_apply (j : Fin 256) : k0_pay5 v19 (ix1 j) = len (fam v19) j := len_row v19 _ _ _ j
/-- The similarities of the first block of rows with the first group of columns. -/
theorem pay6_apply (i : Fin 512) (j : Fin 256) :
    k0_pay6 v12 (k0_pay3 v12) v19 (ix2 i j) = sim (fam v12) (fam v19) i j :=
  sim_block (fam v12) (fam v19) _ _ _ _ _ (pay4_apply v12 v19) (pay3_apply v12)
    (fun j => (shapeCast_a_1a_apply _ _ 0 j).trans (pay5_apply v19 j)) i j
/-- The inner products of the first block of rows with the second group of columns. -/
theorem pay7_apply (i : Fin 512) (j : Fin 256) : k0_pay7 v12 v33 (ix2 i j) = inner (fam v12) (fam v33) i j :=
  inner_block _ rfl v12 v33 i j
/-- The lengths of the second group of columns. -/
theorem pay8_apply (j : Fin 256) : k0_pay8 v33 (ix1 j) = len (fam v33) j := len_row v33 _ _ _ j
/-- The similarities of the first block of rows with the second group of columns. -/
theorem pay9_apply (i : Fin 512) (j : Fin 256) :
    k0_pay9 v12 (k0_pay3 v12) v33 (ix2 i j) = sim (fam v12) (fam v33) i j :=
  sim_block (fam v12) (fam v33) _ _ _ _ _ (pay7_apply v12 v33) (pay3_apply v12)
    (fun j => (shapeCast_a_1a_apply _ _ 0 j).trans (pay8_apply v33 j)) i j
/-- The lengths of the second block of rows. -/
theorem pay10_apply (i : Fin 512) : k0_pay10 v47 (ix1 i) = len (fam v47) i := len_row v47 _ _ _ i
/-- The lengths of the second block of rows, with a trailing unit axis. -/
theorem pay11_apply (i : Fin 512) : k0_pay11 v47 (ix2 i 0) = len (fam v47) i :=
  (shapeCast_a_a1_apply _ _ i 0).trans (pay10_apply v47 i)
/-- The inner products of the second block of rows with the first group of columns. -/
theorem pay12_apply (i : Fin 512) (j : Fin 256) : k0_pay12 v19 v47 (ix2 i j) = inner (fam v47) (fam v19) i j :=
  inner_block _ rfl v47 v19 i j
/-- The lengths of the first group of columns, with a leading unit axis. -/
theorem pay13_apply (j : Fin 256) : k0_pay13 v19 (ix2 0 j) = len (fam v19) j :=
  (shapeCast_a_1a_apply _ _ 0 j).trans (len_row v19 _ _ _ j)
/-- The similarities of the second block of rows with the first group of columns. -/
theorem pay14_apply (i : Fin 512) (j : Fin 256) :
    k0_pay14 (k0_pay11 v47) (k0_pay12 v19 v47) (k0_pay13 v19) (ix2 i j) = sim (fam v47) (fam v19) i j :=
  sim_block (fam v47) (fam v19) _ _ _ _ _ (pay12_apply v47 v19) (pay11_apply v47) (pay13_apply v19) i j
/-- The similarities of the second block of rows with the second group of columns. -/
theorem pay15_apply (i : Fin 512) (j : Fin 256) :
    k0_pay15 v33 v47 (k0_pay11 v47) (ix2 i j) = sim (fam v47) (fam v33) i j :=
  sim_block (fam v47) (fam v33) _ _ _ _ _ (inner_block _ rfl v47 v33) (pay11_apply v47)
    (fun j => (shapeCast_a_1a_apply _ _ 0 j).trans (len_row v33 _ _ _ j)) i j
/-- The inner products of the second block of rows with the last group of columns. -/
theorem pay16_apply (i j : Fin 512) : k0_pay16 v47 v76 (ix2 i j) = inner (fam v47) (fam v76) i j :=
  inner_block _ rfl v47 v76 i j
/-- The lengths of the last group of columns. -/
theorem pay17_apply (j : Fin 512) : k0_pay17 v76 (ix1 j) = len (fam v76) j := len_row v76 _ _ _ j
/-- The similarities of the second block of rows with the last group of columns. -/
theorem pay18_apply (i j : Fin 512) :
    k0_pay18 v47 (k0_pay11 v47) v76 (ix2 i j) = sim (fam v47) (fam v76) i j :=
  sim_block (fam v47) (fam v76) _ _ _ _ _ (pay16_apply v47 v76) (pay11_apply v47)
    (fun j => (shapeCast_a_1a_apply _ _ 0 j).trans (pay17_apply v76 j)) i j
/-- The similarities of the first block of rows with the last group of columns. -/
theorem pay19_apply (i j : Fin 512) :
    k0_pay19 v12 (k0_pay3 v12) v76 (ix2 i j) = sim (fam v12) (fam v76) i j :=
  sim_block (fam v12) (fam v76) _ _ _ _ _ (inner_block _ rfl v12 v76) (pay3_apply v12)
    (fun j => (shapeCast_a_1a_apply _ _ 0 j).trans (len_row v76 _ _ _ j)) i j

end Blocks

/-- A vector cut from `o` on reads the entries `o` further. -/
theorem slice1_apply {m k : Nat} (o : Nat) (x : FVec Ideal ⟨1, ![m]⟩ .f32) (h : (⟨1, ![m]⟩ : Shape).Slices ![o] ⟨1, ![k]⟩)
    (hk : o + k ≤ m) (j : Fin k) :
    extractStridedSlice ⟨1, ![k]⟩ ![o] x h (ix1 j) = x (ix1 (⟨o + j.val, by omega⟩ : Fin m)) :=
  extractStridedSlice_apply _ _ _ _ _ fun ax => match ax with | ⟨0, _⟩ => rfl

section Ranks

variable (x y : Fam 1024 1024) (v12 v47 v76 : Vec Ideal S512x1024 .f32) (v19 v33 : Vec Ideal S256x1024 .f32)
  (h12 : fam v12 = part x 0 512 le_first) (h47 : fam v47 = part x 512 512 le_last)
  (h19 : fam v19 = part y 0 256 le_one) (h33 : fam v33 = part y 256 256 le_two)
  (h76 : fam v76 = part y 512 512 le_last)
include h12 h47

/-- In the first group the kernel's count of a column is that column's rank. -/
theorem pay21_apply (h19 : fam v19 = part y 0 256 le_one) (j : Fin 256) :
    k0_pay21 (k0_pay4 v12 v19) (k0_pay5 v19) (k0_pay6 v12 (k0_pay3 v12) v19)
        (k0_pay14 (k0_pay11 v47) (k0_pay12 v19 v47) (k0_pay13 v19)) (k0_pay20 (k0_pay2 v12)) (ix2 0 j)
      = ((rank (fun i => sim x y i ⟨j.val, lt_one j⟩) ⟨j.val, lt_one j⟩ : ℕ) : EReal) := by
  rw [← rank_first _ j.val (by omega), Nat.cast_add]
  have hd := diag_block (fam v12) (fam v19) 0 (by norm_num) (by norm_num) (k0_pay4 v12 v19) (k0_pay20 (k0_pay2 v12)) (k0_pay5 v19)
    iota_S512x256_d0_w32 iota_S512x256_d1_w32 0#32 rfl reduces_S512x256_S256 (.inl rfl) rfl shapeCasts_S256_S1x256
    (pay4_apply v12 v19) (fun j => (slice1_apply 0 (k0_pay2 v12) slices_S512_o0_S256 (by norm_num) j).trans (pay2_apply v12 _)) (pay5_apply v19)
  have c1 := count_diag (sim (fam v12) (fam v19)) 0 (by norm_num) (by norm_num) (k0_pay6 v12 (k0_pay3 v12) v19) _
    broadcasts_S1x256_S512x256 iota_S512x256_d0_w32 iota_S512x256_d1_w32 0#32 rfl reduces_S512x256_S256 (.inl rfl) rfl
    (pay6_apply v12 v19) _ hd j
  have c2 := count_above (sim (fam v47) (fam v19)) (k0_pay14 (k0_pay11 v47) (k0_pay12 v19 v47) (k0_pay13 v19)) _
    broadcasts_S1x256_S512x256 reduces_S512x256_S256 (.inl rfl) rfl (pay14_apply v47 v19) _ hd j
  unfold k0_pay21
  dsimp only
  rw [addf_apply, shapeCast_a_1a_apply, shapeCast_a_1a_apply]
  refine congrArg₂ (· + ·) (c1.trans ?_) (c2.trans ?_)
  · rw [h12, h19]
    simp only [sim_part, Nat.zero_add]
  · rw [h12, h47, h19]
    simp only [sim_part, Nat.zero_add]

/-- In the second group the kernel's count of a column is that column's rank. -/
theorem pay25_apply (h33 : fam v33 = part y 256 256 le_two) (j : Fin 256) :
    k0_pay25 (k0_pay2 v12) (k0_pay7 v12 v33) (k0_pay8 v33) (k0_pay9 v12 (k0_pay3 v12) v33)
        (k0_pay15 v33 v47 (k0_pay11 v47)) (ix2 0 j)
      = ((rank (fun i => sim x y i ⟨256 + j.val, lt_two j⟩) ⟨256 + j.val, lt_two j⟩ : ℕ) : EReal) := by
  rw [← rank_first _ (256 + j.val) (by omega), Nat.cast_add]
  obtain ⟨xn, hxn⟩ : ∃ xn, xn = extractStridedSlice S256 ![256] (k0_pay2 v12) slices_S512_o256_S256 := ⟨_, rfl⟩
  have hx : ∀ j : Fin 256, xn (ix1 j) = len (fam v12) ⟨256 + j.val, by omega⟩ := fun j => by
    rw [hxn, slice1_apply 256 (k0_pay2 v12) slices_S512_o256_S256 (by norm_num) j, pay2_apply]
  have hd := diag_block (fam v12) (fam v33) 256 (by norm_num) (by norm_num) (k0_pay7 v12 v33)
    xn (k0_pay8 v33)
    iota_S512x256_d0_w32 iota_S512x256_d1_w32 256#32 rfl reduces_S512x256_S256 (.inl rfl) rfl shapeCasts_S256_S1x256
    (pay7_apply v12 v33) hx (pay8_apply v33)
  have c1 := count_diag (sim (fam v12) (fam v33)) 256 (by norm_num) (by norm_num) (k0_pay9 v12 (k0_pay3 v12) v33) _
    broadcasts_S1x256_S512x256 iota_S512x256_d0_w32 iota_S512x256_d1_w32 256#32 rfl reduces_S512x256_S256 (.inl rfl) rfl
    (pay9_apply v12 v33) _ hd j
  have c2 := count_above (sim (fam v47) (fam v33)) (k0_pay15 v33 v47 (k0_pay11 v47)) _
    broadcasts_S1x256_S512x256 reduces_S512x256_S256 (.inl rfl) rfl (pay15_apply v47 v33) _ hd j
  unfold k0_pay25
  dsimp only
  rw [← hxn, addf_apply, shapeCast_a_1a_apply, shapeCast_a_1a_apply]
  refine congrArg₂ (· + ·) (c1.trans ?_) (c2.trans ?_)
  · rw [h12, h33]
    simp only [sim_part, Nat.zero_add]
  · rw [h12, h47, h33]
    simp only [sim_part, Nat.zero_add]

/-- In the last group the sum of the kernel's two counts of a column is that column's rank. -/
theorem pay33_34_apply (h76 : fam v76 = part y 512 512 le_last) (j : Fin 512) :
    (k0_pay33 (k0_pay10 v47) (k0_pay16 v47 v76) (k0_pay17 v76) (k0_pay18 v47 (k0_pay11 v47) v76) (ix2 0 j) : EReal)
        + k0_pay34 (k0_pay10 v47) (k0_pay16 v47 v76) (k0_pay17 v76) (k0_pay19 v12 (k0_pay3 v12) v76) (ix1 j)
      = ((rank (fun i => sim x y i ⟨512 + j.val, lt_last j⟩) ⟨512 + j.val, lt_last j⟩ : ℕ) : EReal) := by
  rw [← rank_last _ j.val (by omega), Nat.cast_add]
  have hd := diag_block (fam v47) (fam v76) 0 (by norm_num) (by norm_num) (k0_pay16 v47 v76) (k0_pay10 v47) (k0_pay17 v76)
    iota_S512x512_d0_w32 iota_S512x512_d1_w32 0#32 rfl reduces_S512x512_S512 (.inl rfl) rfl shapeCasts_S512_S1x512
    (pay16_apply v47 v76) (fun j => by rw [pay10_apply]; simp only [Nat.zero_add]) (pay17_apply v76)
  have c1 := count_diag (sim (fam v47) (fam v76)) 0 (by norm_num) (by norm_num) (k0_pay18 v47 (k0_pay11 v47) v76) _
    broadcasts_S1x512_S512x512 iota_S512x512_d0_w32 iota_S512x512_d1_w32 0#32 rfl reduces_S512x512_S512 (.inl rfl) rfl
    (pay18_apply v47 v76) _ hd j
  have c2 := count_notBelow (sim (fam v12) (fam v76)) (k0_pay19 v12 (k0_pay3 v12) v76) _
    broadcasts_S1x512_S512x512 reduces_S512x512_S512 (.inl rfl) rfl (pay19_apply v12 v76) _ hd j
  unfold k0_pay33 k0_pay34 k0_pay32 k0_pay31
  dsimp only
  rw [shapeCast_a_1a_apply]
  refine congrArg₂ (· + ·) (c1.trans ?_) (c2.trans ?_)
  · rw [h47, h76]
    simp only [sim_part, Nat.zero_add]
  · rw [h12, h47, h76]
    simp only [sim_part, Nat.zero_add]

end Ranks

end Cert.Proof
-- ==== Proof.Out.lean ====
/-
The two numbers the kernel stores, from the blocks of rows it has loaded: the hits within the first place and within the
first ten, each times the constant the kernel multiplies by.
-/
module

public import proofs.«01_k».proof.Proof.Pays

@[expose] public section

open Idealize.ShloMosaic Idealize.ShloMosaic.ValueIdx

set_option maxRecDepth 16384

namespace Cert.Proof

open Cert.KernelIdeal Cert.KernelIdeal.Gen

variable (v12 v47 v76 : Vec Ideal S512x1024 .f32) (v19 v33 : Vec Ideal S256x1024 .f32)

/-- The first group's columns whose count is zero, summed. -/
noncomputable def firstHit : FVec Ideal S1x1 .f32 :=
  k0_pay22 (k0_pay4 v12 v19) (k0_pay5 v19) (k0_pay6 v12 (k0_pay3 v12) v19)
    (k0_pay14 (k0_pay11 v47) (k0_pay12 v19 v47) (k0_pay13 v19)) (k0_pay20 (k0_pay2 v12))

/-- The first group's columns whose count is below ten, summed. -/
noncomputable def firstTen : FVec Ideal S1x1 .f32 :=
  k0_pay24 (k0_pay23 (k0_pay4 v12 v19) (k0_pay5 v19) (k0_pay6 v12 (k0_pay3 v12) v19)
    (k0_pay14 (k0_pay11 v47) (k0_pay12 v19 v47) (k0_pay13 v19)) (k0_pay20 (k0_pay2 v12)))
    (Scalar.ofBits .f32 0x3F800000#32)

/-- The first two groups' columns whose count is zero, summed. -/
noncomputable def twoHit : FVec Ideal S1x1 .f32 :=
  k0_pay29 (firstHit v12 v47 v19)
    (k0_pay26 (k0_pay2 v12) (k0_pay7 v12 v33) (k0_pay8 v33) (k0_pay9 v12 (k0_pay3 v12) v33) (k0_pay15 v33 v47 (k0_pay11 v47)))
    k0_pay27 k0_pay28

/-- The first two groups' columns whose count is below ten, summed. -/
noncomputable def twoTen : FVec Ideal S1x1 .f32 :=
  k0_pay30 (firstTen v12 v47 v19)
    (k0_pay25 (k0_pay2 v12) (k0_pay7 v12 v33) (k0_pay8 v33) (k0_pay9 v12 (k0_pay3 v12) v33) (k0_pay15 v33 v47 (k0_pay11 v47)))

/-- The array the kernel stores. -/
noncomputable def stored : FVec Ideal S1x2 .f32 :=
  k0_pay1 (twoHit v12 v47 v19 v33) (twoTen v12 v47 v19 v33)
    (k0_pay33 (k0_pay10 v47) (k0_pay16 v47 v76) (k0_pay17 v76) (k0_pay18 v47 (k0_pay11 v47) v76))
    (k0_pay34 (k0_pay10 v47) (k0_pay16 v47 v76) (k0_pay17 v76) (k0_pay19 v12 (k0_pay3 v12) v76))

variable (x y : Fam 1024 1024) (h12 : fam v12 = part x 0 512 le_first) (h47 : fam v47 = part x 512 512 le_last)
  (h19 : fam v19 = part y 0 256 le_one) (h33 : fam v33 = part y 256 256 le_two)
  (h76 : fam v76 = part y 512 512 le_last)

include h12 h47 h19 in
/-- The first group's hits in first place. -/
theorem firstHit_apply : firstHit v12 v47 v19 (ix2 0 0)
    = ∑ j : Fin 256, if rank (fun i => sim x y i ⟨j.val, lt_one j⟩) ⟨j.val, lt_one j⟩ < 1 then (1 : EReal) else 0 :=
  count_row _ _ (.inl rfl) rfl _ _ fun j => oeq_zero_iff _ _ _ (pay21_apply x y v12 v47 v19 h12 h47 h19 j)

include h12 h47 h19 in
/-- The first group's hits in the first ten places. -/
theorem firstTen_apply : firstTen v12 v47 v19 (ix2 0 0)
    = ∑ j : Fin 256, if rank (fun i => sim x y i ⟨j.val, lt_one j⟩) ⟨j.val, lt_one j⟩ < 10 then (1 : EReal) else 0 :=
  count_row _ _ (.inl rfl) rfl _ _ fun j => olt_ten_iff _ _ _ (pay21_apply x y v12 v47 v19 h12 h47 h19 j)

include h12 h47 h19 h33 in
/-- The first two groups' hits in first place. -/
theorem twoHit_apply : twoHit v12 v47 v19 v33 (ix2 0 0)
    = (∑ j : Fin 256, if rank (fun i => sim x y i ⟨j.val, lt_one j⟩) ⟨j.val, lt_one j⟩ < 1 then (1 : EReal) else 0)
      + ∑ j : Fin 256, if rank (fun i => sim x y i ⟨256 + j.val, lt_two j⟩) ⟨256 + j.val, lt_two j⟩ < 1 then (1 : EReal) else 0 :=
  congrArg₂ (· + ·) (firstHit_apply v12 v47 v19 x y h12 h47 h19)
    (count_row _ _ (.inl rfl) rfl _ _ fun j => oeq_zero_iff _ _ _ (pay25_apply x y v12 v47 v33 h12 h47 h33 j))

include h12 h47 h19 h33 in
/-- The first two groups' hits in the first ten places. -/
theorem twoTen_apply : twoTen v12 v47 v19 v33 (ix2 0 0)
    = (∑ j : Fin 256, if rank (fun i => sim x y i ⟨j.val, lt_one j⟩) ⟨j.val, lt_one j⟩ < 10 then (1 : EReal) else 0)
      + ∑ j : Fin 256, if rank (fun i => sim x y i ⟨256 + j.val, lt_two j⟩) ⟨256 + j.val, lt_two j⟩ < 10 then (1 : EReal) else 0 :=
  congrArg₂ (· + ·) (firstTen_apply v12 v47 v19 x y h12 h47 h19)
    (count_row _ _ (.inl rfl) rfl _ _ fun j => olt_ten_iff _ _ _ (pay25_apply x y v12 v47 v33 h12 h47 h33 j))

/-- What the last payload adds, sets side by side and multiplies. -/
theorem pay1_apply (a b : FVec Ideal S1x1 .f32) (u : FVec Ideal S1x512 .f32) (w : FVec Ideal S512 .f32) (r : Fin 512 → Nat)
    (hr : ∀ j : Fin 512, (u (ix2 0 j) : EReal) + w (ix1 j) = (r j : EReal)) :
    k0_pay1 a b u w (ix2 0 0)
        = ((a (ix2 0 0) : EReal) + ∑ j, if r j < 1 then (1 : EReal) else 0) * Ideal.ofBits .f32 0x3A800000#32
      ∧ k0_pay1 a b u w (ix2 0 1)
        = ((b (ix2 0 0) : EReal) + ∑ j, if r j < 10 then (1 : EReal) else 0) * Ideal.ofBits .f32 0x3A800000#32 := by
  have hc : ∀ j : Fin 512, addf u (shapeCast S1x512 w shapeCasts_S512_S1x512) (ix2 0 j) = (r j : EReal) := fun j => by
    rw [addf_apply, shapeCast_a_1a_apply]
    exact hr j
  have h1 := count_row _ reduces_S1x512_S1 (.inl rfl) rfl shapeCasts_S1_S1x1 (fun j => r j < 1) fun j =>
    oeq_zero_iff (addf u (shapeCast S1x512 w shapeCasts_S512_S1x512)) (ix2 0 j) (r j) (hc j)
  have h2 := count_row _ reduces_S1x512_S1 (.inl rfl) rfl shapeCasts_S1_S1x1 (fun j => r j < 10) fun j =>
    olt_ten_iff (addf u (shapeCast S1x512 w shapeCasts_S512_S1x512)) (ix2 0 j) (r j) (hc j)
  unfold k0_pay1
  dsimp only
  constructor
  · rw [mulf_apply, broadcast_apply,
      concatenate_pair_apply_left (s₁ := S1x1) (s₂ := S1x1) (1 : Fin S1x2.rank) _ _ _ (ix2 0 0) rfl (ix2 0 0) (fun a => by match a with | ⟨0, _⟩ => rfl | ⟨1, _⟩ => rfl)]
    rw [addf_apply, h1]; rfl
  · rw [mulf_apply, broadcast_apply,
      concatenate_pair_apply_right (s₁ := S1x1) (s₂ := S1x1) (1 : Fin S1x2.rank) _ _ _ (ix2 0 1) rfl rfl (ix2 0 0) (fun a ha => by match a, ha with | ⟨0, _⟩, _ => rfl | ⟨1, _⟩, h => exact absurd rfl h) rfl]
    rw [addf_apply, h2]; rfl

include h12 h47 h19 h33 h76 in
/-- The kernel stores the number of hits in first place and in the first ten, each times its constant. -/
theorem stored_apply :
    stored v12 v47 v76 v19 v33 (ix2 0 0) = hits (sim x y) 1 * Ideal.ofBits .f32 0x3A800000#32
      ∧ stored v12 v47 v76 v19 v33 (ix2 0 1) = hits (sim x y) 10 * Ideal.ofBits .f32 0x3A800000#32 := by
  have h := pay1_apply (twoHit v12 v47 v19 v33) (twoTen v12 v47 v19 v33) _ _ _
    (pay33_34_apply x y v12 v47 v76 h12 h47 h76)
  rw [twoHit_apply v12 v47 v19 v33 x y h12 h47 h19 h33, twoTen_apply v12 v47 v19 v33 x y h12 h47 h19 h33] at h
  unfold hits
  rw [sum_groups, sum_groups]
  exact h

end Cert.Proof
-- ==== Proof.KernelRead.lean ====
/-
What the kernel loads from its buffers and what it stores: the blocks of rows are those of the two argument arrays, and
the stored array is the one whose two numbers are the hits.
-/
module

public import proofs.«01_k».proof.Proof.Out
public import proofs.«01_k».proof.Proof.Gen.KernelIdeal.Frame

@[expose] public section

open Idealize.ShloMosaic Idealize.ShloMosaic.TcCoe Idealize.ShloMosaic.ValueIdx

set_option maxRecDepth 16384

namespace Cert.Proof

open Cert.KernelIdeal Cert.KernelIdeal.Gen

/-- A load of `a` rows from row `o`, after writes that agree with an array and cover it, reads that array's rows. -/
theorem load_rows {sp : Space} (v : View sig .tc sp S1024x1024 .f32) (L : List (View.Piece (Elt Ideal) S1024x1024 .f32))
    (A : Vec Ideal S1024x1024 .f32) (hL : ∀ p ∈ L, ∀ x : p.1.shape.Idx, p.2 x = A (p.1.emb x))
    (hc : ∀ y : S1024x1024.Idx, ∃ p ∈ L, y ∈ p.1.set) (o a : Nat)
    (inb : ∀ d, (![o, 0] : Fin 2 → Nat) d + (⟨2, ![a, 1024]⟩ : Shape).size d ≤ S1024x1024.size d) (h : o + a ≤ 1024) :
    fam (v.readCov L (Rect.unit (s := S1024x1024) ![o, 0] (⟨2, ![a, 1024]⟩ : Shape).size inb).toLoadRect : Vec Ideal ⟨2, ![a, 1024]⟩ .f32)
      = part (fam A) o a h := by
  funext i j
  unfold fam part
  rw [View.readCov_eq_canon']
  refine (View.canon_apply_of_pieces A L hL _ (hc _)).trans ?_
  refine congrArg A (funext fun d => Fin.ext ?_)
  match d with
  | ⟨0, _⟩ => show o + 1 * i.val = o + i.val; omega
  | ⟨1, _⟩ => show 0 + 1 * j.val = j.val; omega

/-- A row from `o` on and before `o + a` lies in the block of the `a` rows from row `o`. -/
theorem mem_rows (o a : Nat) (inb : ∀ d, (![o, 0] : Fin 2 → Nat) d + (⟨2, ![a, 1024]⟩ : Shape).size d ≤ S1024x1024.size d)
    (y : S1024x1024.Idx) (h0 : o ≤ (y 0).val) (h1 : (y 0).val < o + a) :
    y ∈ (Rect.unit (s := S1024x1024) ![o, 0] (⟨2, ![a, 1024]⟩ : Shape).size inb).set :=
  Rect.mem_set_unit.mpr fun d => match d with
    | ⟨0, _⟩ => ⟨h0, h1⟩
    | ⟨1, _⟩ => ⟨Nat.zero_le _, lt_of_lt_of_eq (y 1).isLt (Nat.zero_add 1024).symm⟩

/-- The two blocks of rows the kernel copies from its first array are all its rows. -/
theorem cover_two {i0 i1} {w0 w1} (y : S1024x1024.Idx) :
    ∃ p ∈ ([⟨Rect.unit (s := S1024x1024) ![512, 0] S512x1024.size i1, w1⟩, ⟨Rect.unit (s := S1024x1024) ![0, 0] S512x1024.size i0, w0⟩]
      : List (View.Piece (Elt Ideal) S1024x1024 .f32)), y ∈ p.1.set := by
  have hy : (y 0).val < 1024 := (y 0).isLt
  rcases Nat.lt_or_ge (y 0).val 512 with h | h
  · exact ⟨_, List.mem_cons_of_mem _ (List.mem_cons_self ..), mem_rows 0 512 i0 y (Nat.zero_le _) (by omega)⟩
  · exact ⟨_, List.mem_cons_self .., mem_rows 512 512 i1 y h (by omega)⟩

/-- The three blocks of rows the kernel copies from its second array are all its rows. -/
theorem cover_three {i0 i1 i2} {w0 w1 w2} (y : S1024x1024.Idx) :
    ∃ p ∈ ([⟨Rect.unit (s := S1024x1024) ![512, 0] S512x1024.size i2, w2⟩, ⟨Rect.unit (s := S1024x1024) ![256, 0] S256x1024.size i1, w1⟩,
      ⟨Rect.unit (s := S1024x1024) ![0, 0] S256x1024.size i0, w0⟩]
      : List (View.Piece (Elt Ideal) S1024x1024 .f32)), y ∈ p.1.set := by
  have hy : (y 0).val < 1024 := (y 0).isLt
  rcases Nat.lt_or_ge (y 0).val 512 with h | h
  · rcases Nat.lt_or_ge (y 0).val 256 with h' | h'
    · exact ⟨_, List.mem_cons_of_mem _ (List.mem_cons_of_mem _ (List.mem_cons_self ..)), mem_rows 0 256 i0 y (Nat.zero_le _) (by omega)⟩
    · exact ⟨_, List.mem_cons_of_mem _ (List.mem_cons_self ..), mem_rows 256 256 i1 y h' (by omega)⟩
  · exact ⟨_, List.mem_cons_self .., mem_rows 512 512 i2 y h (by omega)⟩

variable (m : (ℓ : Loc nD τ sig) → Buf (Elt Ideal) ℓ) (c : Dev nD)

/-- The array the kernel stores has the hits in first place and in the first ten, each times the kernel's constant. -/
theorem outs_apply (t : Fin cfg0.N) :
    outsAt0 m c t (ix2 0 0) = hits (sim (fam (V m c main_arg0)) (fam (V m c main_arg1))) 1 * Ideal.ofBits .f32 0x3A800000#32
      ∧ outsAt0 m c t (ix2 0 1) = hits (sim (fam (V m c main_arg0)) (fam (V m c main_arg1))) 10 * Ideal.ofBits .f32 0x3A800000#32 := by
  unfold outsAt0 out0_A_0 kernelRun0_A
  dsimp only
  rw [View.read_writes_junk_eq_canon, View.canon_unit_zero (by funext a; fin_cases a <;> rfl)]
  sl_unfold_words
  refine stored_apply _ _ _ _ _ (fam (V m c main_arg0)) (fam (V m c main_arg1)) ?_ ?_ ?_ ?_ ?_
  · refine load_rows _ _ _ ?_ cover_two _ _ _ _
    intro p hp x
    simp only [List.mem_cons, List.not_mem_nil, or_false] at hp
    rcases hp with rfl | rfl <;> rfl
  · refine load_rows _ _ _ ?_ cover_two _ _ _ _
    intro p hp x
    simp only [List.mem_cons, List.not_mem_nil, or_false] at hp
    rcases hp with rfl | rfl <;> rfl
  all_goals
    refine load_rows _ _ _ ?_ cover_three _ _ _ _
    intro p hp x
    simp only [List.mem_cons, List.not_mem_nil, or_false] at hp
    rcases hp with rfl | rfl | rfl <;> rfl

end Cert.Proof
-- ==== Proof.KernelRun.lean ====
/-
The kernel's run: its two results are the numbers it stored.
-/
module

public import proofs.«01_k».proof.Proof.KernelRead
public import Idealize.ShloMosaic.Lib.Pipeline.ValueKit
public import Idealize.ShloMosaic.Lib.StableHlo.RunHlo

@[expose] public section

open Idealize.ShloMosaic Idealize.ShloMosaic.TcCoe

set_option maxRecDepth 16384

namespace Cert.Proof

open Cert.KernelIdeal Cert.KernelIdeal.Gen

variable (m : (ℓ : Loc nD τ sig) → Buf (Elt Ideal) ℓ) (c : Dev nD)

/-- The output array after the run is the array the kernel stored. -/
theorem arr_eq : (dats m 0 c).arrAt 0 cfg0.N = outsAt0 m c t0_0 := by
  refine (dats m 0 c).arrAt_eq_of_after_last 0 t0_0 (by decide +kernel) _ fun j => ?_
  blk_simp
  rw [after0_0]

/-- The first number cut out of a row of two. -/
theorem cut_best (w : Vec Ideal S1x2 .f32) (i : S_.Idx) :
    shapeCast S_ (extractStridedSlice S1x1 ![0, 0] w slices_S1x2_S1x1_0_0) shapeCasts_S1x1_S_ i = w (ValueIdx.ix2 0 0) :=
  extractStridedSlice_apply ![0, 0] w slices_S1x2_S1x1_0_0 _ _ fun d => match d with
    | ⟨0, _⟩ => (congrArg (0 + ·) (Nat.lt_one_iff.mp (Fin.isLt _))).symm
    | ⟨1, _⟩ => (congrArg (0 + ·) (Nat.lt_one_iff.mp (Fin.isLt _))).symm

/-- The second number cut out of a row of two. -/
theorem cut_ten (w : Vec Ideal S1x2 .f32) (i : S_.Idx) :
    shapeCast S_ (extractStridedSlice S1x1 ![0, 1] w slices_S1x2_S1x1_0_1) shapeCasts_S1x1_S_ i = w (ValueIdx.ix2 0 1) :=
  extractStridedSlice_apply ![0, 1] w slices_S1x2_S1x1_0_1 _ _ fun d => match d with
    | ⟨0, _⟩ => (congrArg (0 + ·) (Nat.lt_one_iff.mp (Fin.isLt _))).symm
    | ⟨1, _⟩ => (congrArg (1 + ·) (Nat.lt_one_iff.mp (Fin.isLt _))).symm

/-- The output array, as the lines after the kernel find it. -/
theorem exit_eq : Pipeline.withArrays (cfgs 0).spec c (V0 m c) (fun w => (dats m 0 c).arrAt w (cfgs 0).N) (Proc.tc.devRef main_v0)
    = outsAt0 m c t0_0 :=
  (Pipeline.withArrays_arr (cfgs 0).spec (fun a b _ => Subsingleton.elim (α := Fin 1) a b) c (V0 m c) _ (0 : Fin 1)).trans (arr_eq m c)

/-- The first result is the stored array's first number. -/
theorem tail_best : Pipeline.afterTail₀ cfgs (dats m) 0 (V0 m) [hostOps1] c main_v2 = fun _ => outsAt0 m c t0_0 (ValueIdx.ix2 0 0) := by
  unfold Pipeline.afterTail₀
  simp only [List.flatten_cons, List.flatten_nil, List.append_nil]
  after_results
  rw [exit_eq]
  exact funext fun i => cut_best (outsAt0 m c t0_0) i

/-- The second result is the stored array's second number. -/
theorem tail_ten : Pipeline.afterTail₀ cfgs (dats m) 0 (V0 m) [hostOps1] c main_v4 = fun _ => outsAt0 m c t0_0 (ValueIdx.ix2 0 1) := by
  unfold Pipeline.afterTail₀
  simp only [List.flatten_cons, List.flatten_nil, List.append_nil]
  after_results
  rw [exit_eq]
  exact funext fun i => cut_ten (outsAt0 m c t0_0) i

/-- The first argument is left as it was. -/
theorem tail_first : Pipeline.afterTail₀ cfgs (dats m) 0 (V0 m) [hostOps1] c main_arg0 = m (c.tc.loc main_arg0) := by
  unfold Pipeline.afterTail₀
  simp only [List.flatten_cons, List.flatten_nil, List.append_nil]
  after_results
  exact Pipeline.withArrays_of_ne (cfgs 0).spec c (V0 m c) _ main_arg0 (by decide)

/-- The second argument is left as it was. -/
theorem tail_second : Pipeline.afterTail₀ cfgs (dats m) 0 (V0 m) [hostOps1] c main_arg1 = m (c.tc.loc main_arg1) := by
  unfold Pipeline.afterTail₀
  simp only [List.flatten_cons, List.flatten_nil, List.append_nil]
  after_results
  exact Pipeline.withArrays_of_ne (cfgs 0).spec c (V0 m c) _ main_arg1 (by decide)

end Cert.Proof
-- ==== Proof.RefValue.lean ====
/-
The reference's own arrays read at their indices: its similarity table, its arg-max column and its ten best, and the
two means, each said in terms of the ranks of the similarity table's columns.
-/
module

public import proofs.«01_k».proof.Proof.Block
public import proofs.«01_k».proof.Proof.Gen.ReferenceIdeal
public import Idealize.ShloMosaic.Lib.MatmulPlain
public import Idealize.ShloMosaic.Lib.ValueLayout
public import Idealize.ShloMosaic.Lib.ValueIdx
public import Idealize.ShloMosaic.Lib.ValueIdxRank1
public import Idealize.ShloMosaic.Lib.ReduceAll
public import Idealize.ShloMosaic.Lib.Pipeline.Value

@[expose] public section

open Idealize.ShloMosaic Idealize.ShloMosaic.ValueIdx

set_option maxRecDepth 16384

namespace Cert.Proof

open Cert.ReferenceIdeal Cert.ReferenceIdeal.Facts₀

/-- The reference's length of every row. -/
noncomputable def refLen (x : FVec Ideal S1024x1024 .f32) : FVec Ideal S1024 .f32 :=
  Host.sqrt (Host.reduceAdd (mulf x x) (constant S_ .f32 0x00000000#32) reducesTo_S1024x1024_S1024_d1 h_S_)

/-- The reference's similarity table: row `j`, column `i` compare row `i` of the first argument with row `j` of the
    second. -/
noncomputable def refSim (x y : FVec Ideal S1024x1024 .f32) : FVec Ideal S1024x1024 .f32 :=
  transpose S1024x1024 [1, 0]
    (Host.divf
      (Host.dotGeneral dot_S1024x1024_S1024x1024_S1024x1024_1_0_0_1_n_n none x
        (transpose S1024x1024 [1, 0] y transposes_S1024x1024_S1024x1024_1_0))
      (maximumf
        (mulf
          (broadcastInDim S1024x1024 ![0, 1] bcast_S1024x1_S1024x1024_0_1
            (broadcastInDim S1024x1 ![0] bcast_S1024_S1024x1_0 (refLen x)))
          (broadcastInDim S1024x1024 ![0, 1] bcast_S1x1024_S1024x1024_0_1
            (broadcastInDim S1x1024 ![1] bcast_S1024_S1x1024_1 (refLen y))))
        (broadcastInDim S1024x1024 ![] bcast_S_S1024x1024 (constant (F := Ideal) S_ .f32 0x322BCC77#32))))
    transposes_S1024x1024_S1024x1024_1_0

/-- Which rows hold their own position as arg-max, as bits. -/
noncomputable def refBest (s : FVec Ideal S1024x1024 .f32) : IVec S1024 1 :=
  cmpi .eq
    (fun j => (Host.argReduce reducer_argmax_f32_i32 s (iotaInDim S1024x1024 32 1) (constant (F := Ideal) S_ .f32 0xFF800000#32)
      (constantI S_ 32 0#32) reducesTo_S1024x1024_S1024_d1 h_S_ j).2)
    (iotaInDim S1024 32 0)

/-- Which rows hold their own position among the ten best, as bits. -/
noncomputable def refTen (s : FVec Ideal S1024x1024 .f32) : IVec S1024 1 :=
  Host.reduce IntOp.ori
    (cmpi .eq (Host.topK S1024x10 1 (FloatOps.cmpfTotal .gt) s sliceFits_S1024x1024_S1024x10).2
      (broadcastInDim S1024x10 ![0, 1] bcast_S1024x1_S1024x10_0_1
        (broadcastInDim S1024x1 ![0] bcast_S1024_S1024x1_0 (iotaInDim S1024 32 0))))
    (constantI S_ 1 0#1) reducesTo_S1024x10_S1024_d1 h_S_

/-- The mean of a column of bits. -/
noncomputable def refMean (b : IVec S1024 1) : FVec Ideal S_ .f32 :=
  Host.divf
    (Host.reduceAdd (uitofp (F := Ideal) .f32 b) (constant S_ .f32 0x00000000#32) reducesTo_S1024_S_d0 h_S_)
    (constant S_ .f32 0x44800000#32)

/-- A row's length in the reference is the length of that member. -/
theorem refLen_apply (x : FVec Ideal S1024x1024 .f32) (i : Fin 1024) : refLen x (ix1 i) = len (fam x) i := by
  unfold refLen len
  show Ideal.sqrt (Host.reduceAdd (mulf x x) (constant S_ .f32 0x00000000#32) reducesTo_S1024x1024_S1024_d1 h_S_ (ix1 i)) = _
  rw [hostReduceAdd_apply, Ideal.hostReduceAdd_single _ (by decide)]
  congr 1
  show Ideal.ofBits .f32 0x00000000#32 + _ = _
  rw [Ideal.ofBits_zero_f32, zero_add]
  refine Finset.sum_congr rfl fun k _ => ?_
  have e : (Shape.Reduces.lift (s := S1024x1024) (a := 1) (t := S1024) (by decide) (ix1 i) k) = ix2 i k := by
    funext a; match a with | ⟨0, _⟩ => rfl | ⟨1, _⟩ => rfl
  show mulf x x _ = _
  rw [e]; rfl

/-- The reference's similarity table is the similarity. -/
theorem refSim_apply (x y : FVec Ideal S1024x1024 .f32) (j i : Fin 1024) :
    refSim x y (ix2 j i) = sim (fam x) (fam y) i j := by
  unfold refSim sim
  rw [transpose_ix2_apply, hostDivf_apply]
  congr 1
  · show FloatOps.dotGeneral (DotDims.plain 1024 1024 1024) none _ x _ (ix2 i j) = _
    rw [Ideal.dotGeneral_def]
    have := Ideal.matmul_plain_apply (φ₁ := .f32) (φ₂ := .f32) none x
      (transpose S1024x1024 [1, 0] y transposes_S1024x1024_S1024x1024_1_0) (fun _ => 0) i j
    refine (this.trans (zero_add _)).trans (Finset.sum_congr rfl fun k _ => ?_)
    rw [transpose_ix2_apply]; rfl
  · rw [maximumf_apply, mulf_apply, broadcastInDim_scalar_apply]
    congr 1
    congr 1
    · rw [← refLen_apply]
      refine (broadcastInDim_apply _ _ _ (ix2 i j) (ix2 i (0 : Fin 1)) ?_).trans
        (broadcastInDim_apply _ _ _ (ix2 i (0 : Fin 1)) (ix1 i) ?_)
      · intro a; match a with | ⟨0, _⟩ => rfl | ⟨1, _⟩ => rfl
      · intro a; match a with | ⟨0, _⟩ => rfl
    · rw [← refLen_apply]
      refine (broadcastInDim_apply _ _ _ (ix2 i j) (ix2 (0 : Fin 1) j) ?_).trans
        (broadcastInDim_apply _ _ _ (ix2 (0 : Fin 1) j) (ix1 j) ?_)
      · intro a; match a with | ⟨0, _⟩ => rfl | ⟨1, _⟩ => rfl
      · intro a; match a with | ⟨0, _⟩ => rfl

/-- The reference's arg-max step keeps the accumulated pair exactly when that pair is ahead. -/
theorem reducer_step (a b : EReal × BitVec 32) :
    (PairAhead a b ∧ reducer_argmax_f32_i32 (F := Ideal) a b = a)
      ∨ (¬ PairAhead a b ∧ reducer_argmax_f32_i32 (F := Ideal) a b = b) := by
  obtain ⟨x, p⟩ := a
  obtain ⟨y, q⟩ := b
  have hslt : ∀ {p q : BitVec 32}, p.toInt < q.toInt ↔ p.slt q = true := fun {p q} => by rw [BitVec.slt_iff_toInt_lt]
  rcases lt_trichotomy x y with h | h | h
  · right
    refine ⟨fun hc => hc.elim (fun e => lt_asymm h e) fun e => h.ne e.1, ?_⟩
    simp [reducer_argmax_f32_i32, Ideal.cmpf_def, Ideal.cmp, h.ne, lt_asymm h, IntOp.ori, IntOp.andi, Scalar.select]
  · subst h
    by_cases hp : p.toInt < q.toInt
    · left
      refine ⟨Or.inr ⟨rfl, hp⟩, ?_⟩
      simp [reducer_argmax_f32_i32, Ideal.cmpf_def, Ideal.cmp, IntOp.ori, IntOp.andi, IntOp.cmpi, Scalar.select,
        hslt.mp hp]
    · right
      refine ⟨fun hc => hc.elim (fun e => lt_irrefl _ e) fun e => hp e.2, ?_⟩
      have hp' : p.slt q = false := Bool.eq_false_iff.mpr fun e => hp (hslt.mpr e)
      simp [reducer_argmax_f32_i32, Ideal.cmpf_def, Ideal.cmp, IntOp.ori, IntOp.andi, IntOp.cmpi, Scalar.select, hp']
  · left
    refine ⟨Or.inl h, ?_⟩
    simp [reducer_argmax_f32_i32, Ideal.cmpf_def, Ideal.cmp, h, h.ne', IntOp.ori, IntOp.andi, Scalar.select]

/-- An index of a square table drops to its row. -/
theorem drop_row {a b : Nat} (h : (⟨2, ![a, b]⟩ : Shape).ReducesTo [1] ⟨1, ![a]⟩) (i : Fin a) (k : Fin b) (j : Fin a) :
    h.drop (ix2 i k) = ix1 j ↔ i = j := by
  have e : h.drop (ix2 i k) = ix1 i := by
    funext c
    match c with
    | ⟨0, _⟩ => exact Fin.ext rfl
  rw [e]
  exact ⟨fun h => congrFun h 0, fun h => h ▸ rfl⟩

/-- A row's arg-max bit is set exactly when that row's own position is first. -/
theorem refBest_apply (s : FVec Ideal S1024x1024 .f32) (j : Fin 1024) :
    refBest s (ix1 j) = 1#1 ↔ rank (fun i => s (ix2 j i)) j < 1 := by
  unfold refBest
  rw [cmpi_eq_iff, Ideal.argReduce_eq_reduce2, Host.reduce2_eq_foldl_fiber, Nat.lt_one_iff, iotaInDim_apply]
  have hc : (constant (F := Ideal) S_ .f32 0xFF800000#32) (Shape.Idx.first h_S_) = (⊥ : EReal) := ofBits_neg_inf
  rw [hc]
  refine foldl_position_iff (by norm_num) (fun i => s (ix2 j i)) _ reducer_step _ (fun p => ?_) j
  unfold Host.argReduceFiber
  simp only [List.mem_map, List.mem_filter, List.mem_finRange, true_and, decide_eq_true_eq]
  constructor
  · rintro ⟨n, hn, rfl⟩
    obtain ⟨r, k, hrk⟩ : ∃ r k, S1024x1024.rowMajor.symm n = ix2 r k := ⟨_, _, eq_ix2 _⟩
    rw [hrk] at hn ⊢
    have := (drop_row _ r k j).mp hn
    subst this
    exact ⟨k, rfl⟩
  · rintro ⟨k, rfl⟩
    refine ⟨S1024x1024.rowMajor (ix2 j k), ?_, ?_⟩
    · rw [Equiv.symm_apply_apply]; exact (drop_row _ j k j).mpr rfl
    · rw [Equiv.symm_apply_apply]; rfl

/-- A left fold of bits by `or` is `1` exactly when it starts at `1` or meets a `1`. -/
theorem foldl_ori_iff {ι : Type} (f : ι → BitVec 1) :
    ∀ (l : List ι) (init : BitVec 1),
      l.foldl (fun r n => IntOp.ori r (f n)) init = 1#1 ↔ init = 1#1 ∨ ∃ n ∈ l, f n = 1#1
  | [], init => by simp
  | a :: l, init => by
    rw [List.foldl_cons, foldl_ori_iff f l]
    have e : IntOp.ori init (f a) = 1#1 ↔ init = 1#1 ∨ f a = 1#1 := by
      unfold IntOp.ori
      generalize f a = y
      revert init y
      decide
    rw [e]
    simp only [List.mem_cons, exists_eq_or_imp, or_assoc]

/-- The ten best of a row: place `p` holds the position the stable descending sort puts there, as a word. -/
theorem topTen_apply (s : FVec Ideal S1024x1024 .f32) (j : Fin 1024) (p : Fin 10) :
    (Host.topK S1024x10 1 (FloatOps.cmpfTotal .gt) s sliceFits_S1024x1024_S1024x10).2 (ix2 j p)
      = BitVec.ofNat 32 (sortedFrom (fun a b : Fin 1024 => decide (s (ix2 j b) < s (ix2 j a))) (p.castLE (by norm_num))).val := by
  unfold Host.topK
  dsimp only
  refine (extractStridedSlice_apply _ _ _ (ix2 j p) (ix2 j (p.castLE (by norm_num) : Fin 1024)) fun a => ?_).trans ?_
  · match a with
    | ⟨0, _⟩ => exact (Nat.zero_add _).symm
    | ⟨1, _⟩ => exact (Nat.zero_add _).symm
  · have e : ∀ k : Fin 1024, Shape.Idx.along (ix2 j (p.castLE (by norm_num) : Fin 1024)) (1 : Fin S1024x1024.rank) k = ix2 j k := fun k => by
      funext a
      match a with
      | ⟨0, _⟩ => rfl
      | ⟨1, _⟩ => rfl
    have hb : (fun k k' : Fin 1024 => (FloatOps.cmpfTotal (F := Ideal) (φ := .f32) .gt
          (s (Shape.Idx.along (ix2 j (p.castLE (by norm_num) : Fin 1024)) (1 : Fin S1024x1024.rank) k))
          (s (Shape.Idx.along (ix2 j (p.castLE (by norm_num) : Fin 1024)) (1 : Fin S1024x1024.rank) k')) == 1#1))
        = fun a b => decide (s (ix2 j b) < s (ix2 j a)) := by
      funext a b
      rw [e, e]
      show (BitVec.ofBool (decide (s (ix2 j b) < s (ix2 j a))) == 1#1) = _
      cases decide (s (ix2 j b) < s (ix2 j a)) <;> rfl
    rw [← hb]
    unfold Host.sort2
    rw [dif_pos (show 1 < S1024x1024.rank by decide)]
    dsimp only
    rw [dif_pos (show 1 < S1024x1024.rank by decide), iotaInDim_apply]
    have key : ∀ k : Fin 1024, (Shape.Idx.along (ix2 j (p.castLE (by norm_num) : Fin 1024)) (1 : Fin S1024x1024.rank) k
        (1 : Fin S1024x1024.rank)).val = k.val := fun _ => rfl
    refine congrArg (BitVec.ofNat 32) ((key _).trans (congrArg Fin.val ?_))
    rfl

/-- A row's top-ten bit is set exactly when that row's own position is among the first ten. -/
theorem refTen_apply (s : FVec Ideal S1024x1024 .f32) (j : Fin 1024) :
    refTen s (ix1 j) = 1#1 ↔ rank (fun i => s (ix2 j i)) j < 10 := by
  unfold refTen
  rw [Host.reduce_eq_foldl, foldl_ori_iff]
  have hc : (constantI S_ 1 0#1) (Shape.Idx.first h_S_) ≠ 1#1 := by
    show (0#1 : BitVec 1) ≠ 1#1
    decide
  rw [or_iff_right hc, ← exists_sortedFrom_iff (fun i => s (ix2 j i)) _ (fun a b => rfl) (by norm_num : 10 ≤ 1024) j]
  have hbit : ∀ (r : Fin 1024) (p : Fin 10),
      cmpi .eq (Host.topK S1024x10 1 (FloatOps.cmpfTotal .gt) s sliceFits_S1024x1024_S1024x10).2
        (broadcastInDim S1024x10 ![0, 1] bcast_S1024x1_S1024x10_0_1
          (broadcastInDim S1024x1 ![0] bcast_S1024_S1024x1_0 (iotaInDim S1024 32 0))) (ix2 r p) = 1#1
        ↔ sortedFrom (fun a b : Fin 1024 => decide (s (ix2 r b) < s (ix2 r a))) (p.castLE (by norm_num)) = r := by
    intro r p
    have er : broadcastInDim S1024x10 ![0, 1] bcast_S1024x1_S1024x10_0_1
          (broadcastInDim S1024x1 ![0] bcast_S1024_S1024x1_0 (iotaInDim S1024 32 0)) (ix2 r p) = BitVec.ofNat 32 r.val := by
      refine (broadcastInDim_apply _ _ _ (ix2 r p) (ix2 r (0 : Fin 1)) ?_).trans
        (broadcastInDim_apply _ _ _ (ix2 r (0 : Fin 1)) (ix1 r) ?_)
      · intro a; match a with | ⟨0, _⟩ => rfl | ⟨1, _⟩ => rfl
      · intro a; match a with | ⟨0, _⟩ => rfl
    rw [cmpi_eq_iff, er, topTen_apply]
    constructor
    · intro e
      have := congrArg BitVec.toNat e
      rw [BitVec.toNat_ofNat, BitVec.toNat_ofNat, Nat.mod_eq_of_lt (by omega), Nat.mod_eq_of_lt (by omega)] at this
      exact Fin.ext this
    · intro e; rw [e]
  constructor
  · rintro ⟨i, hi, h1⟩
    obtain ⟨r, p, rfl⟩ : ∃ r p, i = ix2 r p := ⟨_, _, eq_ix2 _⟩
    rw [List.mem_filter, decide_eq_true_eq] at hi
    have := (drop_row _ r p j).mp hi.2
    subst this
    exact ⟨p, (hbit r p).mp h1⟩
  · rintro ⟨p, hp⟩
    refine ⟨ix2 j p, ?_, (hbit j p).mpr hp⟩
    rw [List.mem_filter, decide_eq_true_eq]
    exact ⟨List.mem_map.2 ⟨S1024x10.rowMajor (ix2 j p), List.mem_finRange _, Equiv.symm_apply_apply _ _⟩, (drop_row _ j p j).mpr rfl⟩

/-- The mean of a column of bits is the number of set bits over the number of them. -/
theorem refMean_apply (b : IVec S1024 1) (p : Fin 1024 → Prop) [DecidablePred p] (hb : ∀ j, b (ix1 j) = 1#1 ↔ p j) :
    refMean b ix0 = (∑ j, if p j then (1 : EReal) else 0) * Ideal.ofBits .f32 0x3A800000#32 := by
  unfold refMean
  rw [hostDivf_apply, hostReduceAdd_apply, Ideal.hostReduceAdd_total _ (fun b => b.elim0)]
  show Ideal.div (Ideal.ofBits .f32 0x00000000#32 + _) (Ideal.ofBits .f32 0x44800000#32) = _
  rw [div_1024, Ideal.ofBits_zero_f32, zero_add]
  congr 1
  rw [← Equiv.sum_comp (idxEquiv1 (n := 1024)).symm]
  refine Finset.sum_congr rfl fun j _ => ?_
  show (((b (ix1 j)).toNat : ℝ) : EReal) = _
  by_cases h : p j
  · rw [if_pos h, (hb j).mpr h]; norm_num
  · rw [if_neg h]
    have : b (ix1 j) = 0#1 := by
      have h1 : b (ix1 j) ≠ 1#1 := fun e => h ((hb j).mp e)
      revert h1
      generalize b (ix1 j) = y
      revert y
      decide
    rw [this]; norm_num

/-- The reference's first result: the share of columns whose own entry is first. -/
theorem refMean_best (x y : FVec Ideal S1024x1024 .f32) :
    refMean (refBest (refSim x y)) ix0 = hits (sim (fam x) (fam y)) 1 * Ideal.ofBits .f32 0x3A800000#32 := by
  rw [refMean_apply _ (fun j => rank (fun i => sim (fam x) (fam y) i j) j < 1) fun j => ?_]
  · rfl
  · rw [refBest_apply]
    simp only [refSim_apply]

/-- The reference's second result: the share of columns whose own entry is among the first ten. -/
theorem refMean_ten (x y : FVec Ideal S1024x1024 .f32) :
    refMean (refTen (refSim x y)) ix0 = hits (sim (fam x) (fam y)) 10 * Ideal.ofBits .f32 0x3A800000#32 := by
  rw [refMean_apply _ (fun j => rank (fun i => sim (fam x) (fam y) i j) j < 10) fun j => ?_]
  · rfl
  · rw [refTen_apply]
    simp only [refSim_apply]

end Cert.Proof
-- ==== Proof.RefRun.lean ====
/-
The reference's run: its two results are the two means over the similarity table of its arguments, its arguments are
left as they were, and no semaphore is left standing.
-/
module

public import proofs.«01_k».proof.Defs
public import proofs.«01_k».proof.Proof.RefValue
public import Idealize.ShloMosaic.Adequacy
public import Idealize.ShloMosaic.Init
public import Idealize.ShloMosaic.Lib.Claim
public import Idealize.ShloMosaic.Lib.Quiescent
public import Idealize.ShloMosaic.Lib.StableHlo.RunHlo

@[expose] public section

open Idealize.ShloMosaic Idealize.ShloMosaic.TcCoe Idealize.SL.Sem

set_option maxRecDepth 16384

namespace Cert.Proof

open Cert.ReferenceIdeal

/-- From any memory the reference ends with the two means in its result buffers and its arguments unchanged. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v18)
          = refMean (refBest (refSim (m ((c.tc : Thread nD τ).loc main_arg0)) (m ((c.tc : Thread nD τ).loc main_arg1))))
      ∧ r.2.mem ((c.tc : Thread nD τ).loc main_v25)
          = refMean (refTen (refSim (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  · rfl
  · rfl

/-- The reference runs to an end that leaves its arguments unchanged and every semaphore at zero. -/
theorem ref_frame : Cert.quiescent_ReferenceIdeal := fun m g _ =>
  (θ_run (defs (F := Ideal)) _ _).mono
    (fun r h => ⟨fun c => ⟨(h c).2.2.1, (h c).2.2.2⟩, sem_eq_zero_of_no_sems (by decide) r.2⟩) (ref_run m g)

end Cert.Proof
-- ==== Proof.Algebraic.lean ====
/-
The kernel and the reference compute the same two numbers over the extended reals.
-/
module

public import proofs.«01_k».proof.Proof.KernelRun
public import proofs.«01_k».proof.Proof.RefRun

@[expose] public section

open Idealize.ShloMosaic Idealize.ShloMosaic.TcCoe Idealize.SL.Sem

set_option maxRecDepth 16384

namespace Cert.Proof

instance : Cert.KernelIdeal.Facts := Cert.KernelIdeal.Gen.facts
instance : Cert.ReferenceIdeal.Facts := Cert.ReferenceIdeal.Gen.facts

/-- The reference's first result, at its one index. -/
theorem ref_best (x y : Vec Ideal Cert.KernelIdeal.S1024x1024 .f32) : refMean (refBest (refSim x y))
    = fun _ => hits (sim (fam x) (fam y)) 1 * Ideal.ofBits .f32 0x3A800000#32 :=
  funext fun i => (congrArg _ (funext fun a => a.elim0)).trans (refMean_best x y)

/-- The reference's second result, at its one index. -/
theorem ref_ten (x y : Vec Ideal Cert.KernelIdeal.S1024x1024 .f32) : refMean (refTen (refSim x y))
    = fun _ => hits (sim (fam x) (fam y)) 10 * Ideal.ofBits .f32 0x3A800000#32 :=
  funext fun i => (congrArg _ (funext fun a => a.elim0)).trans (refMean_ten x y)

/-- From equal arguments, kernel and reference end with equal results, their arguments unchanged. -/
theorem algebraic : Cert.algebraic_KernelIdeal_ReferenceIdeal := by
  intro m g m' g' _ hm
  refine ⟨fun c _ => Cert.KernelIdeal.Gen.outsAt0 m c Cert.KernelIdeal.Gen.t0_0 (ValueIdx.ix2 0 0),
    fun c _ => Cert.KernelIdeal.Gen.outsAt0 m c Cert.KernelIdeal.Gen.t0_0 (ValueIdx.ix2 0 1), ?_, ?_⟩
  · run_from Cert.KernelIdeal.Gen.run_main m g
    · exact tail_best m c
    · exact tail_ten m c
    · exact tail_first m c
    · exact tail_second m c
  · refine (θ_run _ _ _).mono (fun r h c => ?_) (ref_run m' g')
    refine ⟨(h c).1.trans ?_, (h c).2.1.trans ?_, (h c).2.2.1, (h c).2.2.2⟩
    · rw [(hm c).1, (hm c).2]
      exact (ref_best _ _).trans (funext fun _ => (outs_apply m c _).1.symm)
    · rw [(hm c).1, (hm c).2]
      exact (ref_ten _ _).trans (funext fun _ => (outs_apply m c _).2.symm)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, ref_frame, trivial, algebraic⟩

end Cert.Proof

end
